-- ==== Defs.lean ====
def Pre_A2a (m : (ℓ : Loc Cert.A2a.nD Cert.A2a.τ Cert.A2a.sig) → Buf (Elt Bits) ℓ) : Prop :=
  True

def Pre_A2aIdeal (m : (ℓ : Loc Cert.A2aIdeal.nD Cert.A2aIdeal.τ Cert.A2aIdeal.sig) → Buf (Elt Ideal) ℓ) : Prop :=
  True

def Pre_ReferenceA2aIdeal (m : (ℓ : Loc Cert.ReferenceA2aIdeal.nD Cert.ReferenceA2aIdeal.τ Cert.ReferenceA2aIdeal.sig) → Buf (Elt Ideal) ℓ) : Prop :=
  True

def Pre_Gemm (m : (ℓ : Loc Cert.Gemm.nD Cert.Gemm.τ Cert.Gemm.sig) → Buf (Elt Bits) ℓ) : Prop :=
  True

def Pre_GemmIdeal (m : (ℓ : Loc Cert.GemmIdeal.nD Cert.GemmIdeal.τ Cert.GemmIdeal.sig) → Buf (Elt Ideal) ℓ) : Prop :=
  True

def Pre_ReferenceGemmIdeal (m : (ℓ : Loc Cert.ReferenceGemmIdeal.nD Cert.ReferenceGemmIdeal.τ Cert.ReferenceGemmIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_within_amax [hPre_within_amax : Cert.Pre_within_amax.Facts] (m : (ℓ : Loc Cert.QuantIdeal.nD Cert.QuantIdeal.τ Cert.QuantIdeal.sig) → Buf (Elt Ideal) ℓ) : Prop :=
  ∀ c : Dev Cert.QuantIdeal.nD,
    (Cert.Pre_within_amax.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1))) = (fun _ => 1#1)

def Pre_ReferenceQuantIdeal (m : (ℓ : Loc Cert.ReferenceQuantIdeal.nD Cert.ReferenceQuantIdeal.τ Cert.ReferenceQuantIdeal.sig) → Buf (Elt Ideal) ℓ) : Prop :=
  True

def Pre_ReferenceQuantIdeal_within_amax [hPre_within_amax : Cert.Pre_within_amax.Facts] (m : (ℓ : Loc Cert.ReferenceQuantIdeal.nD Cert.ReferenceQuantIdeal.τ Cert.ReferenceQuantIdeal.sig) → Buf (Elt Ideal) ℓ) : Prop :=
  ∀ c : Dev Cert.ReferenceQuantIdeal.nD,
    (Cert.Pre_within_amax.fn (F := Ideal) (m ((c.tc : Thread Cert.ReferenceQuantIdeal.nD Cert.ReferenceQuantIdeal.τ).loc Cert.ReferenceQuantIdeal.main_arg0)) (m ((c.tc : Thread Cert.ReferenceQuantIdeal.nD Cert.ReferenceQuantIdeal.τ).loc Cert.ReferenceQuantIdeal.main_arg1))) = (fun _ => 1#1)

def quiescent_A2a [hA2a : Cert.A2a.Facts] : Prop :=
  ∀ (m : (ℓ : Loc Cert.A2a.nD Cert.A2a.τ Cert.A2a.sig) → Buf (Elt Bits) ℓ) (g : Dev Cert.A2a.nD → PrngReg), Pre_A2a m →
    θ_run (Cert.A2a.defs (F := Bits)) (onTc (τ := Cert.A2a.τ) (Cert.A2a.main (F := Bits))) ⟨m, fun _ => 0, g⟩ (fun r => (∀ c : Dev Cert.A2a.nD,
      r.2.mem ((c.tc : Thread Cert.A2a.nD Cert.A2a.τ).loc Cert.A2a.main_arg0) = m ((c.tc : Thread Cert.A2a.nD Cert.A2a.τ).loc Cert.A2a.main_arg0))
      ∧ r.2.sem = fun _ => 0)

def quiescent_A2aIdeal [hA2aIdeal : Cert.A2aIdeal.Facts] : Prop :=
  ∀ (m : (ℓ : Loc Cert.A2aIdeal.nD Cert.A2aIdeal.τ Cert.A2aIdeal.sig) → Buf (Elt Ideal) ℓ) (g : Dev Cert.A2aIdeal.nD → PrngReg), Pre_A2aIdeal m →
    θ_run (Cert.A2aIdeal.defs (F := Ideal)) (onTc (τ := Cert.A2aIdeal.τ) (Cert.A2aIdeal.main (F := Ideal))) ⟨m, fun _ => 0, g⟩ (fun r => (∀ c : Dev Cert.A2aIdeal.nD,
      r.2.mem ((c.tc : Thread Cert.A2aIdeal.nD Cert.A2aIdeal.τ).loc Cert.A2aIdeal.main_arg0) = m ((c.tc : Thread Cert.A2aIdeal.nD Cert.A2aIdeal.τ).loc Cert.A2aIdeal.main_arg0))
      ∧ r.2.sem = fun _ => 0)

def quiescent_ReferenceA2aIdeal [hReferenceA2aIdeal : Cert.ReferenceA2aIdeal.Facts] : Prop :=
  ∀ (m : (ℓ : Loc Cert.ReferenceA2aIdeal.nD Cert.ReferenceA2aIdeal.τ Cert.ReferenceA2aIdeal.sig) → Buf (Elt Ideal) ℓ) (g : Dev Cert.ReferenceA2aIdeal.nD → PrngReg), Pre_ReferenceA2aIdeal m →
    θ_run (Cert.ReferenceA2aIdeal.defs (F := Ideal)) (onTc (τ := Cert.ReferenceA2aIdeal.τ) (Cert.ReferenceA2aIdeal.main (F := Ideal))) ⟨m, fun _ => 0, g⟩ (fun r => (∀ c : Dev Cert.ReferenceA2aIdeal.nD,
      r.2.mem ((c.tc : Thread Cert.ReferenceA2aIdeal.nD Cert.ReferenceA2aIdeal.τ).loc Cert.ReferenceA2aIdeal.main_arg0) = m ((c.tc : Thread Cert.ReferenceA2aIdeal.nD Cert.ReferenceA2aIdeal.τ).loc Cert.ReferenceA2aIdeal.main_arg0))
      ∧ r.2.sem = fun _ => 0)

def quiescent_Gemm [hGemm : Cert.Gemm.Facts] : Prop :=
  ∀ (m : (ℓ : Loc Cert.Gemm.nD Cert.Gemm.τ Cert.Gemm.sig) → Buf (Elt Bits) ℓ) (g : Dev Cert.Gemm.nD → PrngReg), Pre_Gemm m →
    θ_run (Cert.Gemm.defs (F := Bits)) (onTc (τ := Cert.Gemm.τ) (Cert.Gemm.main (F := Bits))) ⟨m, fun _ => 0, g⟩ (fun r => (∀ c : Dev Cert.Gemm.nD,
      r.2.mem ((c.tc : Thread Cert.Gemm.nD Cert.Gemm.τ).loc Cert.Gemm.main_arg0) = m ((c.tc : Thread Cert.Gemm.nD Cert.Gemm.τ).loc Cert.Gemm.main_arg0)
      ∧ r.2.mem ((c.tc : Thread Cert.Gemm.nD Cert.Gemm.τ).loc Cert.Gemm.main_arg1) = m ((c.tc : Thread Cert.Gemm.nD Cert.Gemm.τ).loc Cert.Gemm.main_arg1))
      ∧ r.2.sem = fun _ => 0)

def quiescent_GemmIdeal [hGemmIdeal : Cert.GemmIdeal.Facts] : Prop :=
  ∀ (m : (ℓ : Loc Cert.GemmIdeal.nD Cert.GemmIdeal.τ Cert.GemmIdeal.sig) → Buf (Elt Ideal) ℓ) (g : Dev Cert.GemmIdeal.nD → PrngReg), Pre_GemmIdeal m →
    θ_run (Cert.GemmIdeal.defs (F := Ideal)) (onTc (τ := Cert.GemmIdeal.τ) (Cert.GemmIdeal.main (F := Ideal))) ⟨m, fun _ => 0, g⟩ (fun r => (∀ c : Dev Cert.GemmIdeal.nD,
      r.2.mem ((c.tc : Thread Cert.GemmIdeal.nD Cert.GemmIdeal.τ).loc Cert.GemmIdeal.main_arg0) = m ((c.tc : Thread Cert.GemmIdeal.nD Cert.GemmIdeal.τ).loc Cert.GemmIdeal.main_arg0)
      ∧ r.2.mem ((c.tc : Thread Cert.GemmIdeal.nD Cert.GemmIdeal.τ).loc Cert.GemmIdeal.main_arg1) = m ((c.tc : Thread Cert.GemmIdeal.nD Cert.GemmIdeal.τ).loc Cert.GemmIdeal.main_arg1))
      ∧ r.2.sem = fun _ => 0)

def quiescent_ReferenceGemmIdeal [hReferenceGemmIdeal : Cert.ReferenceGemmIdeal.Facts] : Prop :=
  ∀ (m : (ℓ : Loc Cert.ReferenceGemmIdeal.nD Cert.ReferenceGemmIdeal.τ Cert.ReferenceGemmIdeal.sig) → Buf (Elt Ideal) ℓ) (g : Dev Cert.ReferenceGemmIdeal.nD → PrngReg), Pre_ReferenceGemmIdeal m →
    θ_run (Cert.ReferenceGemmIdeal.defs (F := Ideal)) (onTc (τ := Cert.ReferenceGemmIdeal.τ) (Cert.ReferenceGemmIdeal.main (F := Ideal))) ⟨m, fun _ => 0, g⟩ (fun r => (∀ c : Dev Cert.ReferenceGemmIdeal.nD,
      r.2.mem ((c.tc : Thread Cert.ReferenceGemmIdeal.nD Cert.ReferenceGemmIdeal.τ).loc Cert.ReferenceGemmIdeal.main_arg0) = m ((c.tc : Thread Cert.ReferenceGemmIdeal.nD Cert.ReferenceGemmIdeal.τ).loc Cert.ReferenceGemmIdeal.main_arg0)
      ∧ r.2.mem ((c.tc : Thread Cert.ReferenceGemmIdeal.nD Cert.ReferenceGemmIdeal.τ).loc Cert.ReferenceGemmIdeal.main_arg1) = m ((c.tc : Thread Cert.ReferenceGemmIdeal.nD Cert.ReferenceGemmIdeal.τ).loc Cert.ReferenceGemmIdeal.main_arg1))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_QuantIdeal_pre_within_amax [hQuantIdeal : Cert.QuantIdeal.Facts] [hPre_within_amax : Cert.Pre_within_amax.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_within_amax m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ r.2.sem = fun _ => 0)

def quiescent_ReferenceQuantIdeal [hReferenceQuantIdeal : Cert.ReferenceQuantIdeal.Facts] : Prop :=
  ∀ (m : (ℓ : Loc Cert.ReferenceQuantIdeal.nD Cert.ReferenceQuantIdeal.τ Cert.ReferenceQuantIdeal.sig) → Buf (Elt Ideal) ℓ) (g : Dev Cert.ReferenceQuantIdeal.nD → PrngReg), Pre_ReferenceQuantIdeal m →
    θ_run (Cert.ReferenceQuantIdeal.defs (F := Ideal)) (onTc (τ := Cert.ReferenceQuantIdeal.τ) (Cert.ReferenceQuantIdeal.main (F := Ideal))) ⟨m, fun _ => 0, g⟩ (fun r => (∀ c : Dev Cert.ReferenceQuantIdeal.nD,
      r.2.mem ((c.tc : Thread Cert.ReferenceQuantIdeal.nD Cert.ReferenceQuantIdeal.τ).loc Cert.ReferenceQuantIdeal.main_arg0) = m ((c.tc : Thread Cert.ReferenceQuantIdeal.nD Cert.ReferenceQuantIdeal.τ).loc Cert.ReferenceQuantIdeal.main_arg0)
      ∧ r.2.mem ((c.tc : Thread Cert.ReferenceQuantIdeal.nD Cert.ReferenceQuantIdeal.τ).loc Cert.ReferenceQuantIdeal.main_arg1) = m ((c.tc : Thread Cert.ReferenceQuantIdeal.nD Cert.ReferenceQuantIdeal.τ).loc Cert.ReferenceQuantIdeal.main_arg1))
      ∧ r.2.sem = fun _ => 0)

def quiescent_ReferenceQuantIdeal_pre_within_amax [hReferenceQuantIdeal : Cert.ReferenceQuantIdeal.Facts] [hPre_within_amax : Cert.Pre_within_amax.Facts] : Prop :=
  ∀ (m : (ℓ : Loc Cert.ReferenceQuantIdeal.nD Cert.ReferenceQuantIdeal.τ Cert.ReferenceQuantIdeal.sig) → Buf (Elt Ideal) ℓ) (g : Dev Cert.ReferenceQuantIdeal.nD → PrngReg), Pre_ReferenceQuantIdeal_within_amax m →
    θ_run (Cert.ReferenceQuantIdeal.defs (F := Ideal)) (onTc (τ := Cert.ReferenceQuantIdeal.τ) (Cert.ReferenceQuantIdeal.main (F := Ideal))) ⟨m, fun _ => 0, g⟩ (fun r => (∀ c : Dev Cert.ReferenceQuantIdeal.nD,
      r.2.mem ((c.tc : Thread Cert.ReferenceQuantIdeal.nD Cert.ReferenceQuantIdeal.τ).loc Cert.ReferenceQuantIdeal.main_arg0) = m ((c.tc : Thread Cert.ReferenceQuantIdeal.nD Cert.ReferenceQuantIdeal.τ).loc Cert.ReferenceQuantIdeal.main_arg0)
      ∧ r.2.mem ((c.tc : Thread Cert.ReferenceQuantIdeal.nD Cert.ReferenceQuantIdeal.τ).loc Cert.ReferenceQuantIdeal.main_arg1) = m ((c.tc : Thread Cert.ReferenceQuantIdeal.nD Cert.ReferenceQuantIdeal.τ).loc Cert.ReferenceQuantIdeal.main_arg1))
      ∧ r.2.sem = fun _ => 0)

def preserves_A2a_A2aIdeal : Prop :=
  True

def algebraic_A2aIdeal_ReferenceA2aIdeal_on_own_slab [hA2aIdeal : Cert.A2aIdeal.Facts] [hReferenceA2aIdeal : Cert.ReferenceA2aIdeal.Facts] [hOn_own_slab : Cert.On_own_slab.Facts] : Prop :=
  ∀ (m : (ℓ : Loc Cert.A2aIdeal.nD Cert.A2aIdeal.τ Cert.A2aIdeal.sig) → Buf (Elt Ideal) ℓ) (g : Dev Cert.A2aIdeal.nD → PrngReg)
    (m' : (ℓ : Loc Cert.ReferenceA2aIdeal.nD Cert.ReferenceA2aIdeal.τ Cert.ReferenceA2aIdeal.sig) → Buf (Elt Ideal) ℓ) (g' : Dev Cert.ReferenceA2aIdeal.nD → PrngReg), Pre_A2aIdeal m →
    (∀ c : Dev Cert.A2aIdeal.nD,
      m ((c.tc : Thread Cert.A2aIdeal.nD Cert.A2aIdeal.τ).loc Cert.A2aIdeal.main_arg0) = Layout.block ⟨2, ![4096, 1024]⟩ ⟨2, ![4096, 4096]⟩ 1 4 c (m' (((0 : Dev Cert.ReferenceA2aIdeal.nD).tc : Thread Cert.ReferenceA2aIdeal.nD Cert.ReferenceA2aIdeal.τ).loc Cert.ReferenceA2aIdeal.main_arg0))) →
    ∃ (v0 : Buf (Elt Ideal) (((0 : Dev Cert.ReferenceA2aIdeal.nD).tc : Thread Cert.ReferenceA2aIdeal.nD Cert.ReferenceA2aIdeal.τ).loc Cert.ReferenceA2aIdeal.main_v3)),
      θ_run (Cert.A2aIdeal.defs (F := Ideal)) (onTc (τ := Cert.A2aIdeal.τ) (Cert.A2aIdeal.main (F := Ideal))) ⟨m, fun _ => 0, g⟩ (fun r => ∀ c : Dev Cert.A2aIdeal.nD,
          (∀ i : (⟨3, ![4, 1024, 1024]⟩ : Shape).Idx, (Layout.block ⟨3, ![4, 1024, 1024]⟩ ⟨3, ![16, 1024, 1024]⟩ 0 4 c ((Cert.On_own_slab.fn (F := Ideal) (m' (((0 : Dev Cert.ReferenceA2aIdeal.nD).tc : Thread Cert.ReferenceA2aIdeal.nD Cert.ReferenceA2aIdeal.τ).loc Cert.ReferenceA2aIdeal.main_arg0)))) : (⟨3, ![4, 1024, 1024]⟩ : Shape).Idx → _) i = 1#1 → r.2.mem ((c.tc : Thread Cert.A2aIdeal.nD Cert.A2aIdeal.τ).loc Cert.A2aIdeal.main_v1) i = (Layout.block ⟨3, ![4, 1024, 1024]⟩ ⟨3, ![16, 1024, 1024]⟩ 0 4 c v0 : (⟨3, ![4, 1024, 1024]⟩ : Shape).Idx → _) i)
          ∧ r.2.mem ((c.tc : Thread Cert.A2aIdeal.nD Cert.A2aIdeal.τ).loc Cert.A2aIdeal.main_arg0) = m ((c.tc : Thread Cert.A2aIdeal.nD Cert.A2aIdeal.τ).loc Cert.A2aIdeal.main_arg0))
      ∧ θ_run (Cert.ReferenceA2aIdeal.defs (F := Ideal)) (onTc (τ := Cert.ReferenceA2aIdeal.τ) (Cert.ReferenceA2aIdeal.main (F := Ideal))) ⟨m', fun _ => 0, g'⟩ (fun r =>
          (∀ i : (⟨3, ![16, 1024, 1024]⟩ : Shape).Idx, (Cert.On_own_slab.fn (F := Ideal) (m' (((0 : Dev Cert.ReferenceA2aIdeal.nD).tc : Thread Cert.ReferenceA2aIdeal.nD Cert.ReferenceA2aIdeal.τ).loc Cert.ReferenceA2aIdeal.main_arg0))) i = 1#1 → r.2.mem (((0 : Dev Cert.ReferenceA2aIdeal.nD).tc : Thread Cert.ReferenceA2aIdeal.nD Cert.ReferenceA2aIdeal.τ).loc Cert.ReferenceA2aIdeal.main_v3) i = v0 i)
          ∧ r.2.mem (((0 : Dev Cert.ReferenceA2aIdeal.nD).tc : Thread Cert.ReferenceA2aIdeal.nD Cert.ReferenceA2aIdeal.τ).loc Cert.ReferenceA2aIdeal.main_arg0) = m' (((0 : Dev Cert.ReferenceA2aIdeal.nD).tc : Thread Cert.ReferenceA2aIdeal.nD Cert.ReferenceA2aIdeal.τ).loc Cert.ReferenceA2aIdeal.main_arg0))

def preserves_Gemm_GemmIdeal : Prop :=
  True

def algebraic_GemmIdeal_ReferenceGemmIdeal [hGemmIdeal : Cert.GemmIdeal.Facts] [hReferenceGemmIdeal : Cert.ReferenceGemmIdeal.Facts] : Prop :=
  ∀ (m : (ℓ : Loc Cert.GemmIdeal.nD Cert.GemmIdeal.τ Cert.GemmIdeal.sig) → Buf (Elt Ideal) ℓ) (g : Dev Cert.GemmIdeal.nD → PrngReg)
    (m' : (ℓ : Loc Cert.ReferenceGemmIdeal.nD Cert.ReferenceGemmIdeal.τ Cert.ReferenceGemmIdeal.sig) → Buf (Elt Ideal) ℓ) (g' : Dev Cert.ReferenceGemmIdeal.nD → PrngReg), Pre_GemmIdeal m →
    (∀ c : Dev Cert.GemmIdeal.nD,
      m' ((c.tc : Thread Cert.ReferenceGemmIdeal.nD Cert.ReferenceGemmIdeal.τ).loc Cert.ReferenceGemmIdeal.main_arg0) = m ((c.tc : Thread Cert.GemmIdeal.nD Cert.GemmIdeal.τ).loc Cert.GemmIdeal.main_arg0)
      ∧ m' ((c.tc : Thread Cert.ReferenceGemmIdeal.nD Cert.ReferenceGemmIdeal.τ).loc Cert.ReferenceGemmIdeal.main_arg1) = m ((c.tc : Thread Cert.GemmIdeal.nD Cert.GemmIdeal.τ).loc Cert.GemmIdeal.main_arg1)) →
    ∃ (v0 : (c : Dev Cert.GemmIdeal.nD) → Buf (Elt Ideal) ((c.tc : Thread Cert.GemmIdeal.nD Cert.GemmIdeal.τ).loc Cert.GemmIdeal.main_v0_0)) (v1 : (c : Dev Cert.GemmIdeal.nD) → Buf (Elt Ideal) ((c.tc : Thread Cert.GemmIdeal.nD Cert.GemmIdeal.τ).loc Cert.GemmIdeal.main_v0_1)),
      θ_run (Cert.GemmIdeal.defs (F := Ideal)) (onTc (τ := Cert.GemmIdeal.τ) (Cert.GemmIdeal.main (F := Ideal))) ⟨m, fun _ => 0, g⟩ (fun r => ∀ c : Dev Cert.GemmIdeal.nD,
          r.2.mem ((c.tc : Thread Cert.GemmIdeal.nD Cert.GemmIdeal.τ).loc Cert.GemmIdeal.main_v0_0) = v0 c
          ∧ r.2.mem ((c.tc : Thread Cert.GemmIdeal.nD Cert.GemmIdeal.τ).loc Cert.GemmIdeal.main_v0_1) = v1 c
          ∧ r.2.mem ((c.tc : Thread Cert.GemmIdeal.nD Cert.GemmIdeal.τ).loc Cert.GemmIdeal.main_arg0) = m ((c.tc : Thread Cert.GemmIdeal.nD Cert.GemmIdeal.τ).loc Cert.GemmIdeal.main_arg0)
          ∧ r.2.mem ((c.tc : Thread Cert.GemmIdeal.nD Cert.GemmIdeal.τ).loc Cert.GemmIdeal.main_arg1) = m ((c.tc : Thread Cert.GemmIdeal.nD Cert.GemmIdeal.τ).loc Cert.GemmIdeal.main_arg1))
      ∧ θ_run (Cert.ReferenceGemmIdeal.defs (F := Ideal)) (onTc (τ := Cert.ReferenceGemmIdeal.τ) (Cert.ReferenceGemmIdeal.main (F := Ideal))) ⟨m', fun _ => 0, g'⟩ (fun r => ∀ c : Dev Cert.ReferenceGemmIdeal.nD,
          r.2.mem ((c.tc : Thread Cert.ReferenceGemmIdeal.nD Cert.ReferenceGemmIdeal.τ).loc Cert.ReferenceGemmIdeal.main_v3) = v0 c
          ∧ r.2.mem ((c.tc : Thread Cert.ReferenceGemmIdeal.nD Cert.ReferenceGemmIdeal.τ).loc Cert.ReferenceGemmIdeal.main_v6) = v1 c
          ∧ r.2.mem ((c.tc : Thread Cert.ReferenceGemmIdeal.nD Cert.ReferenceGemmIdeal.τ).loc Cert.ReferenceGemmIdeal.main_arg0) = m' ((c.tc : Thread Cert.ReferenceGemmIdeal.nD Cert.ReferenceGemmIdeal.τ).loc Cert.ReferenceGemmIdeal.main_arg0)
          ∧ r.2.mem ((c.tc : Thread Cert.ReferenceGemmIdeal.nD Cert.ReferenceGemmIdeal.τ).loc Cert.ReferenceGemmIdeal.main_arg1) = m' ((c.tc : Thread Cert.ReferenceGemmIdeal.nD Cert.ReferenceGemmIdeal.τ).loc Cert.ReferenceGemmIdeal.main_arg1))

def preserves_Quant_QuantIdeal : Prop :=
  True

def algebraic_QuantIdeal_ReferenceQuantIdeal_pre_within_amax [hQuantIdeal : Cert.QuantIdeal.Facts] [hReferenceQuantIdeal : Cert.ReferenceQuantIdeal.Facts] [hPre_within_amax : Cert.Pre_within_amax.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.ReferenceQuantIdeal.nD Cert.ReferenceQuantIdeal.τ Cert.ReferenceQuantIdeal.sig) → Buf (Elt Ideal) ℓ) (g' : Dev Cert.ReferenceQuantIdeal.nD → PrngReg), Pre_QuantIdeal_within_amax m →
    (∀ c : Dev Cert.QuantIdeal.nD,
      m' ((c.tc : Thread Cert.ReferenceQuantIdeal.nD Cert.ReferenceQuantIdeal.τ).loc Cert.ReferenceQuantIdeal.main_arg0) = m ((c.tc : Thread Cert.QuantIdeal.nD Cert.QuantIdeal.τ).loc Cert.QuantIdeal.main_arg0)
      ∧ m' ((c.tc : Thread Cert.ReferenceQuantIdeal.nD Cert.ReferenceQuantIdeal.τ).loc Cert.ReferenceQuantIdeal.main_arg1) = m ((c.tc : Thread Cert.QuantIdeal.nD Cert.QuantIdeal.τ).loc Cert.QuantIdeal.main_arg1)) →
    ∃ (v0 : (c : Dev Cert.QuantIdeal.nD) → Buf (Elt Ideal) ((c.tc : Thread Cert.QuantIdeal.nD Cert.QuantIdeal.τ).loc Cert.QuantIdeal.main_v0)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0) = v0 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1))
      ∧ θ_run (Cert.ReferenceQuantIdeal.defs (F := Ideal)) (onTc (τ := Cert.ReferenceQuantIdeal.τ) (Cert.ReferenceQuantIdeal.main (F := Ideal))) ⟨m', fun _ => 0, g'⟩ (fun r => ∀ c : Dev Cert.ReferenceQuantIdeal.nD,
          r.2.mem ((c.tc : Thread Cert.ReferenceQuantIdeal.nD Cert.ReferenceQuantIdeal.τ).loc Cert.ReferenceQuantIdeal.main_v0) = v0 c
          ∧ r.2.mem ((c.tc : Thread Cert.ReferenceQuantIdeal.nD Cert.ReferenceQuantIdeal.τ).loc Cert.ReferenceQuantIdeal.main_arg0) = m' ((c.tc : Thread Cert.ReferenceQuantIdeal.nD Cert.ReferenceQuantIdeal.τ).loc Cert.ReferenceQuantIdeal.main_arg0)
          ∧ r.2.mem ((c.tc : Thread Cert.ReferenceQuantIdeal.nD Cert.ReferenceQuantIdeal.τ).loc Cert.ReferenceQuantIdeal.main_arg1) = m' ((c.tc : Thread Cert.ReferenceQuantIdeal.nD Cert.ReferenceQuantIdeal.τ).loc Cert.ReferenceQuantIdeal.main_arg1))

def Claim : Prop :=
  ∃ (hA2a : Cert.A2a.Facts) (hA2aIdeal : Cert.A2aIdeal.Facts) (hReferenceA2aIdeal : Cert.ReferenceA2aIdeal.Facts) (hGemm : Cert.Gemm.Facts) (hGemmIdeal : Cert.GemmIdeal.Facts) (hReferenceGemmIdeal : Cert.ReferenceGemmIdeal.Facts) (hQuant : Cert.Quant.Facts) (hQuantIdeal : Cert.QuantIdeal.Facts) (hReferenceQuantIdeal : Cert.ReferenceQuantIdeal.Facts) (hPre_within_amax : Cert.Pre_within_amax.Facts) (hOn_own_slab : Cert.On_own_slab.Facts),
    quiescent_A2a (hA2a := hA2a)
    ∧ quiescent_A2aIdeal (hA2aIdeal := hA2aIdeal)
    ∧ quiescent_ReferenceA2aIdeal (hReferenceA2aIdeal := hReferenceA2aIdeal)
    ∧ quiescent_Gemm (hGemm := hGemm)
    ∧ quiescent_GemmIdeal (hGemmIdeal := hGemmIdeal)
    ∧ quiescent_ReferenceGemmIdeal (hReferenceGemmIdeal := hReferenceGemmIdeal)
    ∧ quiescent_Quant (hQuant := hQuant)
    ∧ quiescent_QuantIdeal (hQuantIdeal := hQuantIdeal)
    ∧ quiescent_QuantIdeal_pre_within_amax (hQuantIdeal := hQuantIdeal) (hPre_within_amax := hPre_within_amax)
    ∧ quiescent_ReferenceQuantIdeal (hReferenceQuantIdeal := hReferenceQuantIdeal)
    ∧ quiescent_ReferenceQuantIdeal_pre_within_amax (hReferenceQuantIdeal := hReferenceQuantIdeal) (hPre_within_amax := hPre_within_amax)
    ∧ preserves_A2a_A2aIdeal
    ∧ algebraic_A2aIdeal_ReferenceA2aIdeal_on_own_slab (hA2aIdeal := hA2aIdeal) (hReferenceA2aIdeal := hReferenceA2aIdeal) (hOn_own_slab := hOn_own_slab)
    ∧ preserves_Gemm_GemmIdeal
    ∧ algebraic_GemmIdeal_ReferenceGemmIdeal (hGemmIdeal := hGemmIdeal) (hReferenceGemmIdeal := hReferenceGemmIdeal)
    ∧ preserves_Quant_QuantIdeal
    ∧ algebraic_QuantIdeal_ReferenceQuantIdeal_pre_within_amax (hQuantIdeal := hQuantIdeal) (hReferenceQuantIdeal := hReferenceQuantIdeal) (hPre_within_amax := hPre_within_amax)
-- ==== On_own_slab.lean ====
abbrev S4096x4096 : Shape := ⟨2, ![4096, 4096]⟩
abbrev S16 : Shape := ⟨1, ![16]⟩
abbrev S_ : Shape := ⟨0, ![]⟩
abbrev S16x1x1 : Shape := ⟨3, ![16, 1, 1]⟩
abbrev S16x1024x1024 : Shape := ⟨3, ![16, 1024, 1024]⟩

class Facts : Prop where
  bcast_S_S16 : S_.BroadcastsInDim S16 (![] : Fin 0 → Fin S16.rank)
  bcast_S16_S16x1x1_0 : S16.BroadcastsInDim S16x1x1 (![0] : Fin 1 → Fin S16x1x1.rank)
  bcast_S16x1x1_S16x1024x1024_0_1_2 : S16x1x1.BroadcastsInDim S16x1024x1024 (![0, 1, 2] : Fin 3 → Fin S16x1024x1024.rank)

variable [Facts]

def fn_where {F : FTy → Type} [FloatOps F] (arg0 : IVec S16 1) (arg1 : IVec S16 32) (arg2 : IVec S16 32) : IVec S16 32 :=
  let v0 : IVec S16 32 := select arg0 arg1 arg2
  v0

def fn_floor_divide {F : FTy → Type} [FloatOps F] (arg0 : IVec S16 32) (arg1 : IVec S_ 32) : IVec S16 32 :=
  let v0 : IVec S_ 32 := id arg1
  let v1 : IVec S16 32 := broadcastInDim S16 ![] bcast_S_S16 v0
  let v2 : IVec S16 32 := Host.divsi arg0 v1
  let v3 : IVec S16 32 := signi arg0
  let v4 : IVec S_ 32 := signi v0
  let v5 : IVec S16 32 := broadcastInDim S16 ![] bcast_S_S16 v4
  let v6 : IVec S16 1 := cmpi .ne v3 v5
  let v7 : IVec S16 32 := broadcastInDim S16 ![] bcast_S_S16 v0
  let v8 : IVec S16 32 := Host.remsi arg0 v7
  let c : IVec S_ 32 := constantI S_ 32 0#32
  let v9 : IVec S16 32 := broadcastInDim S16 ![] bcast_S_S16 c
  let v10 : IVec S16 1 := cmpi .ne v8 v9
  let v11 : IVec S16 1 := andi v6 v10
  let c_0 : IVec S_ 32 := constantI S_ 32 1#32
  let v12 : IVec S16 32 := broadcastInDim S16 ![] bcast_S_S16 c_0
  let v13 : IVec S16 32 := subi v2 v12
  let v14 : IVec S16 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16 32) (arg1 : IVec S_ 32) : IVec S16 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S16 32 := broadcastInDim S16 ![] bcast_S_S16 v2
  let v4 : IVec S16 32 := Host.remsi arg0 v3
  let c_1 : IVec S_ 32 := constantI S_ 32 0#32
  let v5 : IVec S16 32 := broadcastInDim S16 ![] bcast_S_S16 c_1
  let v6 : IVec S16 1 := cmpi .ne v4 v5
  let c_2 : IVec S_ 32 := constantI S_ 32 0#32
  let v7 : IVec S16 32 := broadcastInDim S16 ![] bcast_S_S16 c_2
  let v8 : IVec S16 1 := cmpi .slt v4 v7
  let c_3 : IVec S_ 32 := constantI S_ 32 0#32
  let v9 : IVec S_ 1 := cmpi .slt v2 c_3
  let v10 : IVec S16 1 := broadcastInDim S16 ![] bcast_S_S16 v9
  let v11 : IVec S16 1 := cmpi .ne v8 v10
  let v12 : IVec S16 1 := andi v11 v6
  let v13 : IVec S16 32 := broadcastInDim S16 ![] bcast_S_S16 v2
  let v14 : IVec S16 32 := addi v4 v13
  let v15 : IVec S16 32 := select v12 v14 v4
  v15

def fn {F : FTy → Type} [FloatOps F] (main_arg0 : FVec F S4096x4096 .f32) : IVec S16x1024x1024 1 :=
  let main_v0 : IVec S16 32 := iotaInDim S16 32 0
  let main_c : IVec S_ 32 := constantI S_ 32 4#32
  let main_v1 : IVec S16 32 := fn_floor_divide (F := F) main_v0 main_c
  let main_c_0 : IVec S_ 32 := constantI S_ 32 4#32
  let main_v2 : IVec S16 32 := fn_remainder (F := F) main_v0 main_c_0
  let main_v3 : IVec S16 1 := cmpi .eq main_v1 main_v2
  let main_v4 : IVec S16x1x1 1 := broadcastInDim S16x1x1 ![0] bcast_S16_S16x1x1_0 main_v3
  let main_v5 : IVec S16x1024x1024 1 := broadcastInDim S16x1024x1024 ![0, 1, 2] bcast_S16x1x1_S16x1024x1024_0_1_2 main_v4
  main_v5
-- ==== Pre_within_amax.lean ====
abbrev S1024x8192 : Shape := ⟨2, ![1024, 8192]⟩
abbrev S1x1 : Shape := ⟨2, ![1, 1]⟩

class Facts : Prop where
  bcast_S1x1_S1024x8192_0_1 : S1x1.BroadcastsInDim S1024x8192 (![0, 1] : Fin 2 → Fin S1024x8192.rank)

variable [Facts]

def fn {F : FTy → Type} [FloatOps F] (main_arg0 : FVec F S1024x8192 .f32) (main_arg1 : FVec F S1x1 .f32) : IVec S1024x8192 1 :=
  let main_v0 : FVec F S1024x8192 .f32 := Host.absf main_arg0
  let main_v1 : FVec F S1024x8192 .f32 := broadcastInDim S1024x8192 ![0, 1] bcast_S1x1_S1024x8192_0_1 main_arg1
  let main_v2 : IVec S1024x8192 1 := cmpf .ole main_v0 main_v1
  main_v2
-- ==== A2a.lean ====
abbrev S4096x1024 : Shape := ⟨2, ![4096, 1024]⟩
abbrev S4x1024x1024 : Shape := ⟨3, ![4, 1024, 1024]⟩
abbrev S3 : Shape := ⟨1, ![3]⟩
abbrev S4 : Shape := ⟨1, ![4]⟩
abbrev S1024x1024 : Shape := ⟨2, ![1024, 1024]⟩
abbrev S1x1024x1024 : Shape := ⟨3, ![1, 1024, 1024]⟩
abbrev S1 : Shape := ⟨1, ![1]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .bf16⟩
  | .local _ .vmem, ⟨0, _⟩ => ⟨S4096x1024, .f32⟩
  | .local _ .vmem, ⟨1, _⟩ => ⟨S4x1024x1024, .bf16⟩
  | .local _ .vmem, ⟨2, _⟩ => ⟨S4x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v27 : Index := Scalar.indexCast v2
  let c0_13 : Index := 0#32
  let c0_14 : Index := 0#32
  ![v27.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let c0_i32_22 : BitVec 32 := 0#32
  ![v2.toNat, 0, 0]
def k0_off4 (d0 : Dev nD) (c1_i32_17 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : BitVec 32 := Scalar.addi v2 c1_i32_17
  let c4_i32_18 : BitVec 32 := 4#32
  let v35 : BitVec 32 := Scalar.remsi v34 c4_i32_18
  let c0_i32_23 : BitVec 32 := 0#32
  let c0_i32_24 : BitVec 32 := 0#32
  ![v35.toNat, 0, 0]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_17 : BitVec 32 := 1#32
  let v34 : BitVec 32 := Scalar.addi v2 c1_i32_17
  let c4_i32_18 : BitVec 32 := 4#32
  let v35 : BitVec 32 := Scalar.remsi v34 c4_i32_18
  let c1_i32_19 : BitVec 32 := 1#32
  let v36 : BitVec 32 := Scalar.muli v35 c1_i32_19
  let v37 : BitVec 32 := Scalar.addi c0_i32_20 v36
  v37.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v46 : BitVec 32 := Scalar.addi v2 c2_i32
  let c4_i32_25 : BitVec 32 := 4#32
  let v47 : BitVec 32 := Scalar.remsi v46 c4_i32_25
  let c1_i32_27 : BitVec 32 := 1#32
  let v48 : BitVec 32 := Scalar.muli v47 c1_i32_27
  let v49 : BitVec 32 := Scalar.addi c0_i32_28 v48
  v49.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v58 : BitVec 32 := Scalar.addi v2 c3_i32
  let c4_i32_33 : BitVec 32 := 4#32
  let v59 : BitVec 32 := Scalar.remsi v58 c4_i32_33
  let c1_i32_35 : BitVec 32 := 1#32
  let v60 : BitVec 32 := Scalar.muli v59 c1_i32_35
  let v61 : BitVec 32 := Scalar.addi c0_i32_36 v60
  v61.toNat
def k0_off5 (d0 : Dev nD) (c1_i32_41 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.addi v2 c1_i32_41
  let c4_i32_42 : BitVec 32 := 4#32
  let v71 : BitVec 32 := Scalar.remsi v70 c4_i32_42
  ![v71.toNat]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceA2aIdeal.lean ====
abbrev S4096x4096 : Shape := ⟨2, ![4096, 4096]⟩
abbrev S4x1024x4x1024 : Shape := ⟨4, ![4, 1024, 4, 1024]⟩
abbrev S4x4x1024x1024 : Shape := ⟨4, ![4, 4, 1024, 1024]⟩
abbrev S16x1024x1024 : Shape := ⟨3, ![16, 1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x1024x4x1024, .f32⟩
  | .hbm, ⟨2, _⟩ => ⟨S4x4x1024x1024, .f32⟩
  | .hbm, ⟨3, _⟩ => ⟨S16x1024x1024, .f32⟩
  | .hbm, ⟨4, _⟩ => ⟨S16x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Gemm.lean ====
abbrev S4x1024x1024 : Shape := ⟨3, ![4, 1024, 1024]⟩
abbrev S4096x8192 : Shape := ⟨2, ![4096, 8192]⟩
abbrev S1024x8192 : Shape := ⟨2, ![1024, 8192]⟩
abbrev S1x1 : Shape := ⟨2, ![1, 1]⟩
abbrev S4096x512 : Shape := ⟨2, ![4096, 512]⟩
abbrev S1024x512 : Shape := ⟨2, ![1024, 512]⟩
abbrev S1x1024x1024 : Shape := ⟨3, ![1, 1024, 1024]⟩
abbrev S1024x1024 : Shape := ⟨2, ![1024, 1024]⟩
abbrev S1x1024x512 : Shape := ⟨3, ![1, 1024, 512]⟩
abbrev S1 : Shape := ⟨1, ![1]⟩
abbrev S1x1x1 : Shape := ⟨3, ![1, 1, 1]⟩

abbrev nBuf : Space → Nat
  | .hbm => 4
  | .vmem => 5
  | .smem => 2
  | _ => 0

abbrev bufTy : (tb : Table) → Fin (tcTables nBuf tb) → BufTy
  | .hbm, ⟨0, _⟩ => ⟨S4x1024x1024, .bf16⟩
  | .hbm, ⟨1, _⟩ => ⟨S4096x8192, .f32⟩
  | .hbm, ⟨2, _⟩ => ⟨S1024x8192, .f32⟩
  | .hbm, ⟨3, _⟩ => ⟨S1x1, .f32⟩
  | .local _ .vmem, ⟨0, _⟩ => ⟨S4x1024x1024, .bf16⟩
  | .local _ .vmem, ⟨1, _⟩ => ⟨S4096x512, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | .local _ .smem, ⟨0, _⟩ => ⟨S1x1, .f32⟩
  | .local _ .smem, ⟨1, _⟩ => ⟨S1x1, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32_22 : BitVec 32 := 0#32
  let v37 : BitVec 1 := Scalar.cmpi .ne v36 c0_i32_22
  v37

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceGemmIdeal.lean ====
abbrev S4x1024x1024 : Shape := ⟨3, ![4, 1024, 1024]⟩
abbrev S4096x8192 : Shape := ⟨2, ![4096, 8192]⟩
abbrev S1024x4x1024 : Shape := ⟨3, ![1024, 4, 1024]⟩
abbrev S1024x4096 : Shape := ⟨2, ![1024, 4096]⟩
abbrev S1024x8192 : Shape := ⟨2, ![1024, 8192]⟩
abbrev S_ : Shape := ⟨0, ![]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4096x8192, .f32⟩
  | .hbm, ⟨2, _⟩ => ⟨S4x1024x1024, .f32⟩
  | .hbm, ⟨3, _⟩ => ⟨S1024x4x1024, .f32⟩
  | .hbm, ⟨4, _⟩ => ⟨S1024x4096, .f32⟩
  | .hbm, ⟨5, _⟩ => ⟨S1024x8192, .f32⟩
  | .hbm, ⟨6, _⟩ => ⟨S1024x8192, .f32⟩
  | .hbm, ⟨7, _⟩ => ⟨S_, .f32⟩
  | .hbm, ⟨8, _⟩ => ⟨S_, .f32⟩
  | .hbm, ⟨9, _⟩ => ⟨S1x1, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Quant.lean ====
abbrev S1024x8192 : Shape := ⟨2, ![1024, 8192]⟩
abbrev S1x1 : Shape := ⟨2, ![1, 1]⟩
abbrev S1024x1024 : Shape := ⟨2, ![1024, 1024]⟩

abbrev nBuf : Space → Nat
  | .hbm => 3
  | .vmem => 4
  | .smem => 1
  | _ => 0

abbrev bufTy : (tb : Table) → Fin (tcTables nBuf tb) → BufTy
  | .hbm, ⟨0, _⟩ => ⟨S1024x8192, .f32⟩
  | .hbm, ⟨1, _⟩ => ⟨S1x1, .f32⟩
  | .hbm, ⟨2, _⟩ => ⟨S1024x8192, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .smem, ⟨0, _⟩ => ⟨S1x1, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceQuantIdeal.lean ====
abbrev S1024x8192 : Shape := ⟨2, ![1024, 8192]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S1024x8192, .f32⟩
  | .hbm, ⟨1, _⟩ => ⟨S1x1, .f32⟩
  | .hbm, ⟨2, _⟩ => ⟨S1024x8192, .f32⟩
  | .local _ .vmem, ⟨0, _⟩ => ⟨S1024x8192, .f32⟩
  | .local _ .vmem, ⟨1, _⟩ => ⟨S1x1, .f32⟩
  | .local _ .vmem, ⟨2, _⟩ => ⟨S1024x8192, .f32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Straight.lean ====
/-
  Programs whose devices run in a straight line and only exchange transfers: how such a program ends.

  Each device's program is described by a list of actions, in order: a transfer handed to the engine, a wait, the end
  of a kernel's region, or anything else.  For every semaphore cell the units it holds, the units still owed to it by
  pending transfers and the units that transfers still to be issued will bring it are together the units still to be
  waited for.  If the lists balance, and no wait comes after a transfer that feeds it, counted by position, no device
  is ever stuck, every run ends, and at the end every cell is at zero.

  What a device's memory holds is followed through assertions that mention only the device's private memory: elements
  that no transfer of another device ever writes.  A transfer from a device to itself that is waited for at once is
  followed element by element.
-/
module

public import Idealize.ShloMosaic.Machine.Run
public import Idealize.ShloMosaic.Signature.Eff
public import Mathlib.Algebra.BigOperators.Fin
public import Mathlib.Data.Fintype.BigOperators
public import Mathlib.Algebra.Order.BigOperators.Group.Finset
public import Mathlib.Algebra.Order.BigOperators.Group.List

@[expose] public section

noncomputable section

open Idealize.ShloMosaic Idealize.SL.Sem

namespace Cert.Straight

variable {nD : Nat} {τ : Topo} {sig : RefSig} {Val : EltTy → Type} {Λ : Labels}

/-! ## Lists of actions -/

/-- What one step of a device's program does to semaphores. -/
inductive Act (nD : Nat) (τ : Topo) (sig : RefSig) where
  /-- Nothing. -/
  | skip
  /-- A transfer of so many elements is handed to the engine, which will pay `credit` to each of the cells named. -/
  | send (src : Option (GSem nD τ sig)) (dst : GSem nD τ sig) (credit size : Nat)
  /-- So many units are waited for at a cell. -/
  | wait (g : GSem nD τ sig) (n : Nat)
  /-- A kernel's region ends. -/
  | exit

namespace Act

/-- The units the action brings a cell. -/
def brings (g : GSem nD τ sig) : Act nD τ sig → Nat
  | .send src dst credit _ => (if src = some g then credit else 0) + (if dst = g then credit else 0)
  | _ => 0

/-- The units the action takes from a cell. -/
def takes (g : GSem nD τ sig) : Act nD τ sig → Nat
  | .wait h n => if h = g then n else 0
  | _ => 0

/-- More than the steps the action and the transfer it issues can cause. -/
def weight : Act nD τ sig → Nat
  | .send _ _ credit size => 2 * size + 2 * credit + 2
  | _ => 1

theorem weight_pos (a : Act nD τ sig) : 0 < a.weight := by
  cases a <;> simp [weight]

end Act

/-- The units the rest of a list brings a cell. -/
def brings (g : GSem nD τ sig) (l : List (Act nD τ sig)) : Nat := (l.map (Act.brings g)).sum

/-- The units the rest of a list takes from a cell. -/
def takes (g : GSem nD τ sig) (l : List (Act nD τ sig)) : Nat := (l.map (Act.takes g)).sum

/-- The weight of the rest of a list. -/
def weight (l : List (Act nD τ sig)) : Nat := (l.map Act.weight).sum

theorem takes_eq_zero {g : GSem nD τ sig} {l : List (Act nD τ sig)} (h : ∀ n, Act.wait g n ∉ l) : takes g l = 0 := by
  unfold takes
  refine List.sum_eq_zero fun x hx => ?_
  obtain ⟨a, ha, rfl⟩ := List.mem_map.mp hx
  cases a with
  | wait g' n =>
    simp only [Act.takes]
    split
    · rename_i e; subst e; exact absurd ha (h n)
    · rfl
  | _ => rfl

/-- A sum over devices of a quantity of their lists, when one list loses its head. -/
theorem sum_step (f : List (Act nD τ sig) → Nat) (w : Nat) (rem : Dev nD → List (Act nD τ sig)) (c : Dev nD)
    (l : List (Act nD τ sig)) (h : f (rem c) = w + f l) :
    ∑ x, f (rem x) = w + ∑ x, f (Function.update rem c l x) := by
  classical
  rw [← Finset.add_sum_erase _ _ (Finset.mem_univ c), ← Finset.add_sum_erase _ _ (Finset.mem_univ c), h,
    Function.update_self, Nat.add_assoc]
  congr 2
  refine Finset.sum_congr rfl fun x hx => ?_
  rw [Function.update_of_ne (Finset.ne_of_mem_erase hx)]

/-! ## Transfers -/

/-- The units a pending transfer still owes a cell. -/
def owed (g : GSem nD τ sig) (d : Dma nD τ sig Val) : Nat :=
  (if d.srcSem = some g then d.credit - d.srcPaid else 0) + (if d.dstSem = g then d.credit - d.dstPaid else 0)

/-- A bound on the steps the engine can take on a pending transfer. -/
def dmaWeight (d : Dma nD τ sig Val) : Nat :=
  d.toRead.card + d.toWrite.card + (d.credit - d.srcPaid) + (d.credit - d.dstPaid) + 1

/-- A transfer as the engine's steps leave it. -/
structure WellFormed (d : Dma nD τ sig Val) : Prop where
  src_le : d.srcPaid ≤ d.credit
  dst_le : d.dstPaid ≤ d.credit
  done : 0 < d.credit → d.dstPaid = d.credit → d.written = Finset.univ

theorem sum_set {α : Type _} (f : α → Nat) {l : List α} {i : Nat} {a b : α} (h : l[i]? = some a) :
    ((l.set i b).map f).sum + f a = (l.map f).sum + f b := by
  induction l generalizing i with
  | nil => simp at h
  | cons x l ih =>
    cases i with
    | zero =>
      have hx : x = a := by simpa using h
      subst hx
      simp only [List.set_cons_zero, List.map_cons, List.sum_cons]; omega
    | succ i =>
      have := ih (i := i) (by simpa using h)
      simp only [List.set_cons_succ, List.map_cons, List.sum_cons]; omega

theorem sum_eraseIdx {α : Type _} (f : α → Nat) {l : List α} {i : Nat} {a : α} (h : l[i]? = some a) :
    ((l.eraseIdx i).map f).sum + f a = (l.map f).sum := by
  induction l generalizing i with
  | nil => simp at h
  | cons x l ih =>
    cases i with
    | zero =>
      have hx : x = a := by simpa using h
      subst hx
      simp only [List.eraseIdx_cons_zero, List.map_cons, List.sum_cons]; omega
    | succ i =>
      have := ih (i := i) (by simpa using h)
      simp only [List.eraseIdx_cons_succ, List.map_cons, List.sum_cons]; omega

theorem mem_set_of_mem {α : Type _} {l : List α} {i : Nat} {a b e : α} (h : l[i]? = some a) (he : e ∈ l) :
    e ∈ l.set i b ∨ e = a := by
  induction l generalizing i with
  | nil => simp at h
  | cons x l ih =>
    cases i with
    | zero =>
      have hx : x = a := by simpa using h
      subst hx
      rcases List.mem_cons.mp he with rfl | he
      · exact .inr rfl
      · exact .inl (List.mem_cons_of_mem _ he)
    | succ i =>
      rcases List.mem_cons.mp he with rfl | he
      · exact .inl (by simp)
      · rcases ih (i := i) (by simpa using h) he with h | h
        · exact .inl (by rw [List.set_cons_succ]; exact List.mem_cons_of_mem _ h)
        · exact .inr h

theorem mem_set_self {α : Type _} {l : List α} {i : Nat} {a b : α} (h : l[i]? = some a) : b ∈ l.set i b := by
  obtain ⟨hi, -⟩ := List.getElem?_eq_some_iff.mp h
  exact List.mem_set hi _

theorem mem_eraseIdx_of_mem {α : Type _} {l : List α} {i : Nat} {a e : α} (h : l[i]? = some a) (he : e ∈ l) :
    e ∈ l.eraseIdx i ∨ e = a := by
  induction l generalizing i with
  | nil => simp at h
  | cons x l ih =>
    cases i with
    | zero =>
      have hx : x = a := by simpa using h
      subst hx
      rcases List.mem_cons.mp he with rfl | he
      · exact .inr rfl
      · exact .inl he
    | succ i =>
      rcases List.mem_cons.mp he with rfl | he
      · exact .inl (by simp)
      · rcases ih (i := i) (by simpa using h) he with h | h
        · exact .inl (by rw [List.eraseIdx_cons_succ]; exact List.mem_cons_of_mem _ h)
        · exact .inr h

/-- A transfer with what the engine has done of it replaced. -/
def evo (T : Dma nD τ sig Val) (buf : T.shape.Idx → Val T.elt) (rd wr : Finset T.shape.Idx) (sp dp st : Nat) :
    Dma nD τ sig Val :=
  { T with buf := buf, read := rd, written := wr, srcPaid := sp, dstPaid := dp, stamp := st }

/-- The same transfer, as much of it written. -/
def Keep (e e' : Dma nD τ sig Val) : Prop :=
  ∃ buf rd sp dp st, e' = evo e buf rd e.written sp dp st

theorem Keep.refl (e : Dma nD τ sig Val) : Keep e e := ⟨e.buf, e.read, e.srcPaid, e.dstPaid, e.stamp, rfl⟩

/-! ## Private memory -/

section
variable (priv : (ℓ : Loc nD τ sig) → Set (Idx ℓ))

/-- Two memories agree on the private elements of a device. -/
def PrivEq (c : Dev nD) (m m' : MemSt nD τ sig Val) : Prop :=
  ∀ ℓ : Loc nD τ sig, ℓ.1 = c → ∀ i ∈ priv ℓ, m'.mem ℓ i = m.mem ℓ i

/-- An assertion that speaks only of the private elements of a device. -/
def Stable (c : Dev nD) (Φ : MemSt nD τ sig Val → Prop) : Prop :=
  ∀ m m', PrivEq priv c m m' → Φ m → Φ m'

/-- A transfer that writes no private element. -/
def Foreign (d : Dma nD τ sig Val) : Prop := ∀ x, d.dstView.emb x ∉ priv d.dst

/-- A transfer that can no longer change any private element. -/
def Harmless (d : Dma nD τ sig Val) : Prop := Foreign priv d ∨ d.written = Finset.univ

end

/-! ## A device's program against its list -/

section
variable (defs : Defs nD τ sig Val Λ) (priv : (ℓ : Loc nD τ sig) → Set (Idx ℓ)) (Post : MemSt nD τ sig Val → Prop)
  (c : Dev nD)

/-- The program does what the list says, from memories that satisfy the assertion, and ends in `Post`. -/
inductive Runs : List (Act nD τ sig) → Prog (TpuEff nD τ sig Val Λ (Proc.tc : Proc τ)) PUnit →
    (MemSt nD τ sig Val → Prop) → Prop
  | ret {Φ : MemSt nD τ sig Val → Prop} (h : ∀ m, Φ m → Post m) : Runs [] (.ret ⟨⟩) Φ
  | load {cs : CoreSpace} {s : Shape} {e : EltTy} {mr : Memref sig (Proc.tc : Proc τ).kind cs s e} {r : LoadRect s}
      {hl : mr.view.LoadsAt r} {k : (r.shape.Idx → Val e) → Prog (TpuEff nD τ sig Val Λ (Proc.tc : Proc τ)) PUnit}
      {l : List (Act nD τ sig)} {Φ : MemSt nD τ sig Val → Prop} (Ψ : (r.shape.Idx → Val e) → MemSt nD τ sig Val → Prop)
      (hS : ∀ v, Stable priv c (Ψ v))
      (h : ∀ m, Φ m → Ψ (mr.view.readAt Val r (m.mem (mr.view.loc c.tc))) m)
      (hk : ∀ v, Runs l (k v) (Ψ v)) : Runs (.skip :: l) (.op (.load mr r hl) k) Φ
  | store {cs : CoreSpace} {s : Shape} {e : EltTy} {mr : Memref sig (Proc.tc : Proc τ).kind cs s e} {r : Rect s}
      {w : r.shape.Idx → Val e} {M : Finset r.shape.Idx} {h1 : (mr.access r).Stores M} {h2 : M = Finset.univ ∨ ∀ a, r.stride a = 1}
      {k : PUnit → Prog (TpuEff nD τ sig Val Λ (Proc.tc : Proc τ)) PUnit}
      {l : List (Act nD τ sig)} {Φ : MemSt nD τ sig Val → Prop} (Ψ : MemSt nD τ sig Val → Prop)
      (hS : Stable priv c Ψ)
      (h : ∀ m, Φ m → Ψ (m.writeView c.tc (mr.access r) w M))
      (hk : Runs l (k ⟨⟩) Ψ) : Runs (.skip :: l) (.op (.store mr r w M h1 h2) k) Φ
  | deviceId {k : Dev nD → Prog (TpuEff nD τ sig Val Λ (Proc.tc : Proc τ)) PUnit}
      {l : List (Act nD τ sig)} {Φ : MemSt nD τ sig Val → Prop}
      (hk : Runs l (k c) Φ) : Runs (.skip :: l) (.op .deviceId k) Φ
  | assume {P : Prop} {dec : Decidable P} {k : PLift P → Prog (TpuEff nD τ sig Val Λ (Proc.tc : Proc τ)) PUnit}
      {l : List (Act nD τ sig)} {Φ : MemSt nD τ sig Val → Prop} (hP : P)
      (hk : Runs l (k ⟨hP⟩) Φ) : Runs (.skip :: l) (.op (.assume P dec) k) Φ
  | call {ℓ : Λ.Label} {a : Λ.Args ℓ} {k : Λ.Result ℓ → Prog (TpuEff nD τ sig Val Λ (Proc.tc : Proc τ)) PUnit}
      {l : List (Act nD τ sig)} {Φ : MemSt nD τ sig Val → Prop}
      (hk : Runs l (defs .tc ℓ a >>= k) Φ) : Runs (.skip :: l) (.op (.call ℓ a) k) Φ
  | customCall {ℓ : Λ.Label} {a : Λ.Args ℓ} {k : Λ.Result ℓ → Prog (TpuEff nD τ sig Val Λ (Proc.tc : Proc τ)) PUnit}
      {l : List (Act nD τ sig)} {Φ : MemSt nD τ sig Val → Prop} (Ψ : MemSt nD τ sig Val → Prop)
      (hS : Stable priv c Ψ) (h : ∀ m ω, Φ m → Ψ (m.writeBufs c (scopedRefs sig (Proc.tc : Proc τ)) ω))
      (hk : Runs l (defs .tc ℓ a >>= fun r => .op .kernelExit fun _ => k r) Ψ) : Runs (.skip :: l) (.op (.customCall ℓ a) k) Φ
  | exit {k : PUnit → Prog (TpuEff nD τ sig Val Λ (Proc.tc : Proc τ)) PUnit}
      {l : List (Act nD τ sig)} {Φ : MemSt nD τ sig Val → Prop} (Ψ : MemSt nD τ sig Val → Prop)
      (hS : Stable priv c Ψ) (h : ∀ m ω, Φ m → Ψ (m.writeBufs c (scopedRefs sig (Proc.tc : Proc τ)) ω))
      (hk : Runs l (k ⟨⟩) Ψ) : Runs (.exit :: l) (.op .kernelExit k) Φ
  | send {sp sp' : Space} {s₀ : Shape} {e₀ : EltTy} {s : Shape} {e : EltTy} {src : Memref sig (Proc.tc : Proc τ).kind sp s₀ e₀}
      {tgt : DmaTarget nD τ sig (Proc.tc : Proc τ) sp' s e} {via : ReadAs Val s₀ e₀ s e} {sem : SemLoc sig}
      {h1 : src.view.WordExact} {h2 : tgt.view.WordExact} {h3 : tgt.Typed sp sem}
      {k : PUnit → Prog (TpuEff nD τ sig Val Λ (Proc.tc : Proc τ)) PUnit}
      {l : List (Act nD τ sig)} {Φ : MemSt nD τ sig Val → Prop} {sS : Option (GSem nD τ sig)} {dS : GSem nD τ sig} {n size : Nat}
      (hroute : tgt.routed c.tc = true) (hsS : sS = tgt.srcSem c) (hdS : dS = (tgt.thread c, sem))
      (hn : n = (tgt.viewAt c).amount sem) (hsize : size = Fintype.card s.Idx)
      (hfor : ∀ x, (tgt.viewAt c).emb x ∉ priv (tgt.dst c))
      (hk : Runs l (k ⟨⟩) Φ) : Runs (.send sS dS n size :: l) (.op (.enqueueDmaAs src tgt via sem h1 h2 h3) k) Φ
  | wait {κ : Kind} {sem : DmaSem sig} {b : Ref sig κ} {s : Shape} {e : EltTy} {h1 : (Proc.tc : Proc τ) = .tc ∨ b.HasMemref s e}
      {k : PUnit → Prog (TpuEff nD τ sig Val Λ (Proc.tc : Proc τ)) PUnit}
      {l : List (Act nD τ sig)} {Φ : MemSt nD τ sig Val → Prop} {g : GSem nD τ sig} {n : Nat}
      (hg : g = (c.tc, .dma sem)) (hn : n = b.dmaCredit s e)
      (hk : Runs l (k ⟨⟩) Φ) : Runs (.wait g n :: l) (.op (.waitDma sem b s e h1) k) Φ
  | copy {sp sp' : Space} {s₀ : Shape} {e₀ : EltTy} {s : Shape} {e : EltTy} {src : Memref sig (Proc.tc : Proc τ).kind sp s₀ e₀}
      {dst : Memref sig (Proc.tc : Proc τ).kind sp' s e} {via : ReadAs Val s₀ e₀ s e} {sem : DmaSem sig}
      {h1 : src.view.WordExact} {h2 : (DmaTarget.here (nD := nD) dst).view.WordExact}
      {h3 : (DmaTarget.here (nD := nD) (p := (Proc.tc : Proc τ)) dst).Typed sp (.dma sem)}
      {κ : Kind} {b : Ref sig κ} {s' : Shape} {e' : EltTy} {h4 : (Proc.tc : Proc τ) = .tc ∨ b.HasMemref s' e'}
      {k k' : PUnit → Prog (TpuEff nD τ sig Val Λ (Proc.tc : Proc τ)) PUnit}
      {l : List (Act nD τ sig)} {Φ : MemSt nD τ sig Val → Prop} {g : GSem nD τ sig} {n size : Nat}
      (Ψ : MemSt nD τ sig Val → Prop) (X : Set s.Idx)
      (hg : g = (c.tc, .dma sem)) (hn : n = dst.view.dmaCredit) (hn' : n = b.dmaCredit s' e') (hpos : 0 < n)
      (hsize : size = Fintype.card s.Idx)
      (hkk : k ⟨⟩ = .op (.waitDma sem b s' e' h4) k')
      (hne : src.view.loc c.tc ≠ dst.view.loc c.tc)
      (hX : ∀ f f' : Buf Val (src.view.loc c.tc), (∀ i ∈ priv (src.view.loc c.tc), f i = f' i) →
        ∀ x ∈ X, via.apply (src.view.read Val f) x = via.apply (src.view.read Val f') x)
      (hXp : ∀ x ∈ X, dst.view.emb x ∈ priv (dst.view.loc c.tc))
      (htk : takes g l = 0) (hS : Stable priv c Ψ)
      (h : ∀ m₀ m : MemSt nD τ sig Val, Φ m₀ →
        (∀ ℓ : Loc nD τ sig, ℓ.1 = c → ℓ ≠ dst.view.loc c.tc → ∀ i ∈ priv ℓ, m.mem ℓ i = m₀.mem ℓ i) →
        (∀ x ∈ X, m.mem (dst.view.loc c.tc) (dst.view.emb x)
          = cast (congrArg Val dst.view.elt_eq.symm) (via.apply (src.view.read Val (m₀.mem (src.view.loc c.tc))) x)) → Ψ m)
      (hk : Runs l (k' ⟨⟩) Ψ) :
      Runs (.send none g n size :: .wait g n :: l) (.op (.enqueueDmaAs src (.here dst) via (.dma sem) h1 h2 h3) k) Φ

end

/-! ## The state of a device -/

/-- A device's own transfer under way: the transfer, the elements of it that matter, and the memory it began from. -/
structure Ghost (nD : Nat) (τ : Topo) (sig : RefSig) (Val : EltTy → Type) where
  T : Dma nD τ sig Val
  X : Set T.shape.Idx
  m₀ : MemSt nD τ sig Val

namespace Ghost
variable (G : Ghost nD τ sig Val)

/-- The value the transfer is to bring an index. -/
def val (x : G.T.shape.Idx) : Val G.T.elt := G.T.readSrc (G.m₀.mem G.T.src) x

/-- The pending transfer is this one, and what it has read is right. -/
def Is (d : Dma nD τ sig Val) : Prop :=
  ∃ buf rd wr sp dp st, d = evo G.T buf rd wr sp dp st ∧ ∀ x ∈ rd, x ∈ G.X → buf x = G.val x

/-- The element at an index has its value. -/
def Has (m : MemSt nD τ sig Val) (x : G.T.shape.Idx) : Prop :=
  m.mem G.T.dst (G.T.dstView.emb x) = cast (congrArg Val G.T.dstView.elt_eq.symm) (G.val x)

/-- What has been written of the transfer is right, or all of it is. -/
def Progress (m : MemSt nD τ sig Val) (ds : List (Dma nD τ sig Val)) : Prop :=
  (∃ buf rd wr sp dp st, evo G.T buf rd wr sp dp st ∈ ds ∧ ∀ x ∈ wr, x ∈ G.X → G.Has m x) ∨ ∀ x ∈ G.X, G.Has m x

end Ghost

section
variable (priv : (ℓ : Loc nD τ sig) → Set (Idx ℓ)) (c : Dev nD)

/-- The memory agrees with the one the transfer began from, on the private elements off its destination. -/
def Off (G : Ghost nD τ sig Val) (m : MemSt nD τ sig Val) : Prop :=
  ∀ ℓ : Loc nD τ sig, ℓ.1 = c → ℓ ≠ G.T.dst → ∀ i ∈ priv ℓ, m.mem ℓ i = G.m₀.mem ℓ i

/-- The transfer is from the device to itself, its elements that matter are private at both ends. -/
structure Own (G : Ghost nD τ sig Val) : Prop where
  src : G.T.src.1 = c
  dst : G.T.dst.1 = c
  ne : G.T.src ≠ G.T.dst
  reads : ∀ f f' : Buf Val G.T.src, (∀ i ∈ priv G.T.src, f i = f' i) → ∀ x ∈ G.X, G.T.readSrc f x = G.T.readSrc f' x
  writes : ∀ x ∈ G.X, G.T.dstView.emb x ∈ priv G.T.dst

end

section
variable (defs : Defs nD τ sig Val Λ) (priv : (ℓ : Loc nD τ sig) → Set (Idx ℓ)) (Post : MemSt nD τ sig Val → Prop)
  (c : Dev nD)

/-- Where a device stands: finished; about to run the rest of its program; or waiting for its own transfer. -/
inductive At : List (Act nD τ sig) → Option (Ghost nD τ sig Val) →
    Option (Prog (TpuEff nD τ sig Val Λ (Proc.tc : Proc τ)) PUnit) → MemSt nD τ sig Val → List (Dma nD τ sig Val) → Prop
  | done {m : MemSt nD τ sig Val} {ds : List (Dma nD τ sig Val)} (h : Post m) : At [] none none m ds
  | run {m : MemSt nD τ sig Val} {ds : List (Dma nD τ sig Val)} {l : List (Act nD τ sig)}
      {p : Prog (TpuEff nD τ sig Val Λ (Proc.tc : Proc τ)) PUnit} (Φ : MemSt nD τ sig Val → Prop)
      (hr : Runs defs priv Post c l p Φ) (hS : Stable priv c Φ) (h : Φ m) : At l none (some p) m ds
  | copying {m : MemSt nD τ sig Val} {ds : List (Dma nD τ sig Val)} {G : Ghost nD τ sig Val}
      {κ : Kind} {sem : DmaSem sig} {b : Ref sig κ} {s : Shape} {e : EltTy} {h1 : (Proc.tc : Proc τ) = .tc ∨ b.HasMemref s e}
      {k : PUnit → Prog (TpuEff nD τ sig Val Λ (Proc.tc : Proc τ)) PUnit}
      {l : List (Act nD τ sig)} {g : GSem nD τ sig} {n : Nat} (Ψ : MemSt nD τ sig Val → Prop)
      (hg : g = (c.tc, .dma sem)) (hn : n = b.dmaCredit s e) (hdst : G.T.dstSem = g) (hpos : 0 < G.T.credit)
      (own : Own priv c G) (htk : takes g l = 0) (hS : Stable priv c Ψ) (off : Off priv c G m) (hp : G.Progress m ds)
      (h : ∀ m, Off priv c G m → (∀ x ∈ G.X, G.Has m x) → Ψ m) (hk : Runs defs priv Post c l (k ⟨⟩) Ψ) :
      At (.wait g n :: l) (some G) (some (.op (.waitDma sem b s e h1) k)) m ds

variable {defs priv Post c}

/-- Where a device stands does not depend on what others do. -/
theorem At.mono {l : List (Act nD τ sig)} {ph : Option (Ghost nD τ sig Val)}
    {p : Option (Prog (TpuEff nD τ sig Val Λ (Proc.tc : Proc τ)) PUnit)} {m m' : MemSt nD τ sig Val}
    {ds ds' : List (Dma nD τ sig Val)} (hP : Stable priv c Post) (h : At defs priv Post c l ph p m ds) (hm : PrivEq priv c m m')
    (hd : ∀ e ∈ ds, (∃ e' ∈ ds', Keep e e') ∨ e.written = Finset.univ ∨ Foreign priv e ∨ e.dst.1 ≠ c) :
    At defs priv Post c l ph p m' ds' := by
  cases h with
  | done h => exact .done (hP _ _ hm h)
  | run Φ hr hS h => exact .run Φ hr hS (hS _ _ hm h)
  | @copying _ _ G _ _ _ _ _ _ _ _ _ _ Ψ hg hn hdst hpos own htk hS off hp h hk =>
    have hhas : ∀ x ∈ G.X, G.Has m x → G.Has m' x := fun x hx e =>
      (hm G.T.dst own.dst _ (own.writes x hx)).trans e
    refine .copying Ψ hg hn hdst hpos own htk hS ?_ ?_ h hk
    · intro ℓ h1 h2 i hi
      exact (hm ℓ h1 i hi).trans (off ℓ h1 h2 i hi)
    · rcases hp with ⟨buf, rd, wr, sp, dp, st, he, hw⟩ | hall
      · rcases hd _ he with ⟨e', he', buf', rd', sp', dp', st', rfl⟩ | hu | hf | hn
        · exact .inl ⟨buf', rd', wr, sp', dp', st', he', fun x hx hxX => hhas x hxX (hw x hx hxX)⟩
        · exact .inr fun x hx => hhas x hx (hw x (by rw [show wr = Finset.univ from hu]; exact Finset.mem_univ x) hx)
        · exact .inr fun x hx => absurd (own.writes x hx) (hf x)
        · exact absurd own.dst hn
      · exact .inr fun x hx => hhas x hx (hall x hx)

end

/-! ## The invariant -/

section
variable (defs : Defs nD τ sig Val Λ) (priv : (ℓ : Loc nD τ sig) → Set (Idx ℓ)) (Post : Dev nD → MemSt nD τ sig Val → Prop)
  (script : Dev nD → List (Act nD τ sig))

/-- What holds at every state reached: `rem` is what is left of each device's list. -/
structure Inv (s : RunSt nD τ sig Val Λ) (rem : Dev nD → List (Act nD τ sig)) (ph : Dev nD → Option (Ghost nD τ sig Val)) : Prop where
  streams : s.streams = []
  sigs : s.sigs = []
  ops : s.ops = fun _ => none
  suf : ∀ c, rem c <:+ script c
  nonneg : ∀ g, 0 ≤ s.mem.sem g
  bal : ∀ g, s.mem.sem g + (((s.dmas.map (owed g)).sum + ∑ c, brings g (rem c) : ℕ) : ℤ) = ((∑ c, takes g (rem c) : ℕ) : ℤ)
  wf : ∀ d ∈ s.dmas, WellFormed d
  dma : ∀ d ∈ s.dmas, Harmless priv d ∨ ∃ c G, ph c = some G ∧ G.Is d
  dev : ∀ c : Dev nD, At defs priv (Post c) c (rem c) (ph c) (s.prog c.tc) s.mem s.dmas
  oth : ∀ t : Thread nD τ, t.2 ≠ .tc → s.prog t = none ∨ ∃ a, s.prog t = some (.ret a)

/-- A bound on the steps that can still be taken. -/
def mu (s : RunSt nD τ sig Val Λ) (rem : Dev nD → List (Act nD τ sig)) : Nat :=
  ∑ c, weight (rem c) + (s.dmas.map dmaWeight).sum + ∑ t : Thread nD τ, (if (s.prog t).isSome then 1 else 0)

variable {defs priv Post script}

theorem brings_cons (g : GSem nD τ sig) (a : Act nD τ sig) (l : List (Act nD τ sig)) : brings g (a :: l) = a.brings g + brings g l := by
  simp [brings]

theorem takes_cons (g : GSem nD τ sig) (a : Act nD τ sig) (l : List (Act nD τ sig)) : takes g (a :: l) = a.takes g + takes g l := by
  simp [takes]

theorem weight_cons (a : Act nD τ sig) (l : List (Act nD τ sig)) : weight (a :: l) = a.weight + weight l := by
  simp [weight]

/-- A step of a device that takes one action off its list. -/
theorem Inv.core {s s' : RunSt nD τ sig Val Λ} {rem : Dev nD → List (Act nD τ sig)} {ph : Dev nD → Option (Ghost nD τ sig Val)}
    (hP : ∀ c, Stable priv c (Post c)) (I : Inv defs priv Post script s rem ph) (c : Dev nD) {a : Act nD τ sig} {l : List (Act nD τ sig)}
    (hrem : rem c = a :: l) (hsome : (s.prog c.tc).isSome = true) (p' : Prog (TpuEff nD τ sig Val Λ (Proc.tc : Proc τ)) PUnit)
    (hprog : s'.prog = Function.update s.prog c.tc (some p'))
    (h1 : s'.streams = s.streams) (h2 : s'.sigs = s.sigs) (h3 : s'.ops = s.ops)
    (new : List (Dma nD τ sig Val)) (hds : s'.dmas = new ++ s.dmas)
    (hsem : ∀ g, s'.mem.sem g + (((new.map (owed g)).sum + a.takes g : ℕ) : ℤ) = s.mem.sem g + (a.brings g : ℕ))
    (hnn : ∀ g, 0 ≤ s'.mem.sem g) (hwf : ∀ d ∈ new, WellFormed d)
    (hpriv : ∀ c', c' ≠ c → PrivEq priv c' s.mem s'.mem) (ph' : Option (Ghost nD τ sig Val))
    (hdma : ∀ d ∈ new, Harmless priv d ∨ ∃ G, ph' = some G ∧ G.Is d)
    (hold : ∀ d ∈ s.dmas, ∀ G, ph c = some G → G.Is d → Harmless priv d ∨ ∃ G, ph' = some G ∧ G.Is d)
    (hdev : At defs priv (Post c) c l ph' (some p') s'.mem s'.dmas)
    (hmu : (new.map dmaWeight).sum < a.weight) :
    ∃ rem' ph', Inv defs priv Post script s' rem' ph' ∧ mu s' rem' < mu s rem := by
  classical
  refine ⟨Function.update rem c l, Function.update ph c ph', ⟨?_, ?_, ?_, ?_, hnn, ?_, ?_, ?_, ?_, ?_⟩, ?_⟩
  · rw [h1, I.streams]
  · rw [h2, I.sigs]
  · rw [h3, I.ops]
  · intro d
    by_cases hd : d = c
    · subst hd; rw [Function.update_self]
      exact ((List.suffix_cons a l).trans (hrem ▸ List.suffix_refl _)).trans (I.suf d)
    · rw [Function.update_of_ne hd]; exact I.suf d
  · intro g
    have e1 := sum_step (brings g) (a.brings g) rem c l (by rw [hrem, brings_cons])
    have e2 := sum_step (takes g) (a.takes g) rem c l (by rw [hrem, takes_cons])
    have e3 := I.bal g
    have e4 := hsem g
    rw [e1, e2] at e3
    rw [hds, List.map_append, List.sum_append]
    push_cast at e3 e4 ⊢
    omega
  · intro d hd
    rw [hds] at hd
    rcases List.mem_append.mp hd with hd | hd
    · exact hwf d hd
    · exact I.wf d hd
  · intro d hd
    rw [hds] at hd
    have lift : (Harmless priv d ∨ ∃ G, ph' = some G ∧ G.Is d) →
        Harmless priv d ∨ ∃ c' G, Function.update ph c ph' c' = some G ∧ G.Is d := by
      rintro (h | ⟨G, h, h'⟩)
      · exact .inl h
      · exact .inr ⟨c, G, by rw [Function.update_self, h], h'⟩
    rcases List.mem_append.mp hd with hd | hd
    · exact lift (hdma d hd)
    · rcases I.dma d hd with h | ⟨c', G, h, h'⟩
      · exact .inl h
      · by_cases hc : c' = c
        · subst hc; exact lift (hold d hd G h h')
        · exact .inr ⟨c', G, by rw [Function.update_of_ne hc, h], h'⟩
  · intro d
    by_cases hd : d = c
    · subst hd
      rw [Function.update_self, Function.update_self, hprog, Function.update_self]
      exact hdev
    · have hne : (Dev.tc d : Thread nD τ) ≠ Dev.tc c := fun e => hd (congrArg Prod.fst e)
      rw [Function.update_of_ne hd, Function.update_of_ne hd, hprog, Function.update_of_ne hne]
      exact (I.dev d).mono (hP d) (hpriv d hd) fun e he => .inl ⟨e, by rw [hds]; exact List.mem_append_right _ he, Keep.refl e⟩
  · intro t ht
    have hne : t ≠ Dev.tc c := fun e => ht (by rw [e])
    rw [hprog, Function.update_of_ne hne]
    exact I.oth t ht
  · have e1 := sum_step weight a.weight rem c l (by rw [hrem, weight_cons])
    have e2 : (∑ t : Thread nD τ, (if (s'.prog t).isSome then 1 else 0)) = ∑ t : Thread nD τ, (if (s.prog t).isSome then 1 else 0) := by
      refine Finset.sum_congr rfl fun t _ => ?_
      rw [hprog]
      by_cases ht : t = Dev.tc c
      · subst ht; rw [Function.update_self, hsome]; rfl
      · rw [Function.update_of_ne ht]
    unfold mu
    rw [e1, e2, hds, List.map_append, List.sum_append]
    omega

/-- A step of the engine, on the pending transfer at one position. -/
theorem Inv.engine {s s' : RunSt nD τ sig Val Λ} {rem : Dev nD → List (Act nD τ sig)} {ph : Dev nD → Option (Ghost nD τ sig Val)}
    (I : Inv defs priv Post script s rem ph)
    (hprog : s'.prog = s.prog) (h1 : s'.streams = s.streams) (h2 : s'.sigs = s.sigs) (h3 : s'.ops = fun _ => none)
    (hsem : ∀ g, s'.mem.sem g + ((s'.dmas.map (owed g)).sum : ℕ) = s.mem.sem g + ((s.dmas.map (owed g)).sum : ℕ))
    (hnn : ∀ g, 0 ≤ s'.mem.sem g) (hwf : ∀ d ∈ s'.dmas, WellFormed d)
    (hdma : ∀ d ∈ s'.dmas, Harmless priv d ∨ ∃ c G, ph c = some G ∧ G.Is d)
    (hdev : ∀ c : Dev nD, At defs priv (Post c) c (rem c) (ph c) (s.prog c.tc) s'.mem s'.dmas)
    (hmu : (s'.dmas.map dmaWeight).sum < (s.dmas.map dmaWeight).sum) :
    ∃ rem' ph', Inv defs priv Post script s' rem' ph' ∧ mu s' rem' < mu s rem := by
  refine ⟨rem, ph, ⟨?_, ?_, h3, I.suf, hnn, ?_, hwf, hdma, ?_, ?_⟩, ?_⟩
  · rw [h1, I.streams]
  · rw [h2, I.sigs]
  · intro g
    have e3 := I.bal g
    have e4 := hsem g
    push_cast at e3 e4 ⊢
    omega
  · intro c; rw [hprog]; exact hdev c
  · intro t ht; rw [hprog]; exact I.oth t ht
  · unfold mu; rw [hprog]; omega

end

/-! ## Every step keeps the invariant and makes the bound smaller -/

section
variable {defs : Defs nD τ sig Val Λ} {priv : (ℓ : Loc nD τ sig) → Set (Idx ℓ)} {Post : Dev nD → MemSt nD τ sig Val → Prop}
  {script : Dev nD → List (Act nD τ sig)}

theorem touch_none (d : Dev nD) (b : DevRef τ sig) {X : Type} (M : Finset X) :
    Phys.touch (Val := Val) (fun _ => none) d b M = (fun _ => none : Thread nD τ → Option (PendingOp τ sig Val)) := rfl

theorem touchSem_none (g : GSem nD τ sig) :
    Phys.touchSem (Val := Val) (fun _ => none) g = (fun _ => none : Thread nD τ → Option (PendingOp τ sig Val)) := rfl

theorem privEq_refl (c : Dev nD) (m : MemSt nD τ sig Val) : PrivEq priv c m m := fun _ _ _ _ => rfl

theorem privEq_of_ne {c c' : Dev nD} {m m' : MemSt nD τ sig Val} (h : ∀ ℓ : Loc nD τ sig, ℓ.1 ≠ c → m'.mem ℓ = m.mem ℓ) (hc : c' ≠ c) :
    PrivEq priv c' m m' := fun ℓ hℓ i _ => by rw [h ℓ (by rw [hℓ]; exact hc)]

/-- The state of the engine before a device's own transfer is issued, for the transfer as issued. -/
theorem wellFormed_enqueued {sp sp' : Space} {s₀ : Shape} {e₀ : EltTy} {s : Shape} {e : EltTy} (c : Thread nD τ)
    (src : View sig c.2.kind sp s₀ e₀) (tgt : DmaTarget nD τ sig c.2 sp' s e) (via : ReadAs Val s₀ e₀ s e)
    (sem : SemLoc sig) (b₀ : s.Idx → Val e) (n : Nat) : WellFormed (Dma.enqueued c src tgt via sem b₀ n) :=
  ⟨Nat.zero_le _, Nat.zero_le _, fun h1 h2 => absurd h1 (by rw [← h2]; exact Nat.lt_irrefl 0)⟩

/-- The bound of a transfer just issued. -/
theorem weight_enqueued {sp sp' : Space} {s₀ : Shape} {e₀ : EltTy} {s : Shape} {e : EltTy} (c : Thread nD τ)
    (src : View sig c.2.kind sp s₀ e₀) (tgt : DmaTarget nD τ sig c.2 sp' s e) (via : ReadAs Val s₀ e₀ s e)
    (sem : SemLoc sig) (b₀ : s.Idx → Val e) (n : Nat) :
    dmaWeight (Dma.enqueued c src tgt via sem b₀ n) ≤ 2 * Fintype.card s.Idx + 2 * (tgt.viewAt c.1).amount sem + 1 := by
  have h1 := Finset.card_le_univ (Dma.enqueued c src tgt via sem b₀ n).toRead
  have h2 := Finset.card_le_univ (Dma.enqueued c src tgt via sem b₀ n).toWrite
  have h3 : (Dma.enqueued c src tgt via sem b₀ n).credit - (Dma.enqueued c src tgt via sem b₀ n).srcPaid
      = (tgt.viewAt c.1).amount sem := rfl
  have h4 : (Dma.enqueued c src tgt via sem b₀ n).credit - (Dma.enqueued c src tgt via sem b₀ n).dstPaid
      = (tgt.viewAt c.1).amount sem := rfl
  unfold dmaWeight
  rw [h3, h4]
  change _ ≤ Fintype.card s.Idx at h1
  change _ ≤ Fintype.card s.Idx at h2
  omega

theorem Inv.step_device {s s' : RunSt nD τ sig Val Λ} {rem : Dev nD → List (Act nD τ sig)} {ph : Dev nD → Option (Ghost nD τ sig Val)}
    (hP : ∀ c, Stable priv c (Post c)) (hown : ∀ c g n, Act.wait g n ∈ script c → g.1 = Dev.tc c)
    (I : Inv defs priv Post script s rem ph) (c : Dev nD) (ω : Valuation τ sig Val) {p' m'}
    (h : coreStep defs (Dev.tc c) s ω = some (p', m')) (hs' : s' = m'.setProg (Dev.tc c) p') :
    ∃ rem' ph', Inv defs priv Post script s' rem' ph' ∧ mu s' rem' < mu s rem := by
  classical
  have D := I.dev c
  rw [coreStep] at h
  generalize hl : rem c = l0 at D
  generalize hph : ph c = ph0 at D
  generalize hpr : s.prog (Dev.tc c) = pr at D h
  have noOld : ph0 = none → ∀ (ph' : Option (Ghost nD τ sig Val)), ∀ d ∈ s.dmas, ∀ G, ph c = some G → G.Is d →
      Harmless priv d ∨ ∃ G, ph' = some G ∧ G.Is d := by
    intro h0 ph' d _ G h1 _; rw [hph, h0] at h1; cases h1
  cases D with
  | done h' => cases h
  | run Φ hr hS hΦ =>
    rw [Option.bind_some] at h
    cases hr with
    | ret hpost =>
      simp only [coreStepInner, Option.some.injEq, Prod.mk.injEq] at h
      obtain ⟨rfl, rfl⟩ := h
      subst hs'
      refine ⟨rem, ph, ⟨I.streams, I.sigs, I.ops, I.suf, I.nonneg, I.bal, I.wf, I.dma, ?_, ?_⟩, ?_⟩
      · intro d
        by_cases hd : d = c
        · subst hd
          simp only [RunSt.setProg, Function.update_self, hl, hph]
          exact .done (hpost _ hΦ)
        · have hne : (Dev.tc d : Thread nD τ) ≠ Dev.tc c := fun e => hd (congrArg Prod.fst e)
          simp only [RunSt.setProg, Function.update_of_ne hne]
          exact I.dev d
      · intro t ht
        have hne : t ≠ Dev.tc c := fun e => ht (by rw [e])
        simp only [RunSt.setProg, Function.update_of_ne hne]
        exact I.oth t ht
      · unfold mu
        refine Nat.add_lt_add_left ?_ _
        refine Finset.sum_lt_sum (fun t _ => ?_) ⟨Dev.tc c, Finset.mem_univ _, ?_⟩
        · by_cases ht : t = Dev.tc c
          · subst ht; simp [RunSt.setProg]
          · simp [RunSt.setProg, Function.update_of_ne ht]
        · simp [RunSt.setProg, hpr]
    | load Ψ hS' h' hk =>
      simp only [coreStepInner, effStep, Option.map_some, Option.some.injEq, Prod.mk.injEq] at h
      obtain ⟨rfl, rfl⟩ := h
      subst hs'
      refine I.core hP c hl (by rw [hpr]; rfl) _ rfl rfl rfl rfl [] rfl (fun g => by simp [Act.takes, Act.brings, RunSt.setProg])
        I.nonneg (by simp) (fun c' _ => privEq_refl c' _) none (by simp) (noOld rfl _) ?_ (by simp [Act.weight])
      exact .run _ (hk _) (hS' _) (h' _ hΦ)
    | @store cs sh e mr r w M h1 h2 k l Φ Ψ hS' h' hk =>
      simp only [coreStepInner, effStep, Option.map_some, Option.some.injEq, Prod.mk.injEq] at h
      obtain ⟨rfl, rfl⟩ := h
      subst hs'
      refine I.core hP c hl (by rw [hpr]; rfl) _ rfl rfl rfl ?_ [] rfl (fun g => by simp [Act.takes, Act.brings, RunSt.setProg, Phys.writeView])
        I.nonneg (by simp) (fun c' hc => privEq_of_ne (c := c) (fun ℓ hℓ => ?_) hc) none (by simp) (noOld rfl _) ?_ (by simp [Act.weight])
      · show Phys.touch s.ops _ _ _ = s.ops
        rw [I.ops, touch_none]
      · exact writeView_mem_ne fun e => hℓ (by rw [e])
      · exact .run _ hk hS' (h' _ hΦ)
    | deviceId hk =>
      simp only [coreStepInner, effStep, Option.map_some, Option.some.injEq, Prod.mk.injEq] at h
      obtain ⟨rfl, rfl⟩ := h
      subst hs'
      refine I.core hP c hl (by rw [hpr]; rfl) _ rfl rfl rfl rfl [] rfl (fun g => by simp [Act.takes, Act.brings, RunSt.setProg])
        I.nonneg (by simp) (fun c' _ => privEq_refl c' _) none (by simp) (noOld rfl _) ?_ (by simp [Act.weight])
      exact .run _ hk hS hΦ
    | @assume P dec k l Φ hP' hk =>
      cases dec with
      | isFalse hn => exact absurd hP' hn
      | isTrue hy =>
        simp only [coreStepInner, effStep, Option.map_some, Option.some.injEq, Prod.mk.injEq] at h
        obtain ⟨rfl, rfl⟩ := h
        subst hs'
        refine I.core hP c hl (by rw [hpr]; rfl) _ rfl rfl rfl rfl [] rfl (fun g => by simp [Act.takes, Act.brings, RunSt.setProg])
          I.nonneg (by simp) (fun c' _ => privEq_refl c' _) none (by simp) (noOld rfl _) ?_ (by simp [Act.weight])
        exact .run _ hk hS hΦ
    | call hk =>
      simp only [coreStepInner, Option.some.injEq, Prod.mk.injEq] at h
      obtain ⟨rfl, rfl⟩ := h
      subst hs'
      refine I.core hP c hl (by rw [hpr]; rfl) _ rfl rfl rfl rfl [] rfl (fun g => by simp [Act.takes, Act.brings, RunSt.setProg])
        I.nonneg (by simp) (fun c' _ => privEq_refl c' _) none (by simp) (noOld rfl _) ?_ (by simp [Act.weight])
      exact .run _ hk hS hΦ
    | customCall Ψ hS' h' hk =>
      simp only [coreStepInner, Option.some.injEq, Prod.mk.injEq] at h
      obtain ⟨rfl, rfl⟩ := h
      subst hs'
      refine I.core hP c hl (by rw [hpr]; rfl) _ rfl rfl rfl rfl [] rfl (fun g => by simp [Act.takes, Act.brings, RunSt.setProg, Phys.forget])
        I.nonneg (by simp) (fun c' hc => privEq_of_ne (c := c) (fun ℓ hℓ => ?_) hc) none (by simp) (noOld rfl _) ?_ (by simp [Act.weight])
      · exact MemSt.writeBufs_mem_of_not fun e => hℓ e.1
      · exact .run _ hk hS' (h' _ _ hΦ)
    | exit Ψ hS' h' hk =>
      simp only [coreStepInner, effStep] at h
      split at h
      · simp only [Option.map_some, Option.some.injEq, Prod.mk.injEq] at h
        obtain ⟨rfl, rfl⟩ := h
        subst hs'
        refine I.core hP c hl (by rw [hpr]; rfl) _ rfl rfl rfl rfl [] rfl (fun g => by simp [Act.takes, Act.brings, RunSt.setProg, Phys.forget])
          I.nonneg (by simp) (fun c' hc => privEq_of_ne (c := c) (fun ℓ hℓ => ?_) hc) none (by simp) (noOld rfl _) ?_ (by simp [Act.weight])
        · exact MemSt.writeBufs_mem_of_not fun e => hℓ e.1
        · exact .run _ hk hS' (h' _ _ hΦ)
      · cases h
    | @send sp sp' s₀ e₀ sh e src tgt via sem h1 h2 h3 k l Φ sS dS n size hroute hsS hdS hn hsize hfor hk =>
      simp only [coreStepInner, effStep, if_pos hroute] at h
      simp only [Option.map_some, Option.some.injEq, Prod.mk.injEq] at h
      obtain ⟨rfl, rfl⟩ := h
      subst hs'
      refine I.core hP c hl (by rw [hpr]; rfl) _ rfl rfl rfl rfl [_] rfl (fun g => ?_)
        I.nonneg ?_ (fun c' _ => privEq_refl c' _) none ?_ (noOld rfl _) ?_ ?_
      · subst hsS hdS hn
        simp [Act.takes, Act.brings, RunSt.setProg, Phys.enqueue, owed, Dma.enqueued]
      · intro d hd
        rw [List.mem_singleton.mp hd]
        exact wellFormed_enqueued _ _ _ _ _ _ _
      · intro d hd
        rw [List.mem_singleton.mp hd]
        exact .inl (.inl hfor)
      · exact .run _ hk hS hΦ
      · subst hn hsize
        have : dmaWeight (Dma.enqueued (Dev.tc c) src.view tgt via sem
            (via.apply (src.view.read Val (s.mem.mem (src.view.loc (Dev.tc c))))) s.issued)
            ≤ 2 * Fintype.card sh.Idx + 2 * (tgt.viewAt c).amount sem + 1 := weight_enqueued _ _ _ _ _ _ _
        simp only [List.map_cons, List.map_nil, List.sum_cons, List.sum_nil, Act.weight]
        omega
    | @wait κ sem b sh e h1 k l Φ g n hg hn hk =>
      simp only [coreStepInner, effStep] at h
      split at h
      · rename_i hle
        simp only [Option.map_some, Option.some.injEq, Prod.mk.injEq] at h
        obtain ⟨rfl, rfl⟩ := h
        subst hs' hg hn
        refine I.core hP c hl (by rw [hpr]; rfl) _ rfl rfl rfl rfl [] rfl (fun g => ?_)
          (fun g => ?_) (by simp) (fun c' _ => privEq_refl c' _) none (by simp) (noOld rfl _) ?_ (by simp [Act.weight])
        · by_cases hgg : g = (Dev.tc c, SemLoc.dma sem)
          · subst hgg; simp [Act.takes, Act.brings, RunSt.setProg, Phys.subSem]
          · simp [Act.takes, Act.brings, RunSt.setProg, Phys.subSem, Function.update_of_ne hgg, Ne.symm hgg]
        · by_cases hgg : g = (Dev.tc c, SemLoc.dma sem)
          · subst hgg; simpa [RunSt.setProg, Phys.subSem] using hle
          · simpa [RunSt.setProg, Phys.subSem, Function.update_of_ne hgg] using I.nonneg g
        · exact .run _ hk hS (hS s.mem _ (privEq_refl c _) hΦ)
      · cases h
    | @copy sp sp' s₀ e₀ sh e src dst via sem h1 h2 h3 κ b s1 e1 h4 k k' l Φ g n size Ψ X hg hn hn' hpos hsize hkk hne hX hXp htk hS' h' hk =>
      simp only [coreStepInner, effStep, DmaTarget.routed_here, if_true] at h
      simp only [Option.map_some, Option.some.injEq, Prod.mk.injEq] at h
      obtain ⟨rfl, rfl⟩ := h
      subst hs' hg
      let T : Dma nD τ sig Val := Dma.enqueued (Dev.tc c) src.view (.here dst) via (.dma sem)
        (via.apply (src.view.read Val (s.mem.mem (src.view.loc (Dev.tc c))))) s.issued
      let G : Ghost nD τ sig Val := ⟨T, X, s.mem⟩
      have hcr : T.credit = n := hn.symm
      refine I.core hP c hl (by rw [hpr]; rfl) _ rfl rfl rfl rfl [T] rfl (fun g => ?_)
        I.nonneg ?_ (fun c' _ => privEq_refl c' _) (some G) ?_ (noOld rfl _) ?_ ?_
      · subst hn
        simp [Act.takes, Act.brings, RunSt.setProg, Phys.enqueue, owed, Dma.enqueued, T]
      · intro d hd
        rw [List.mem_singleton.mp hd]
        exact wellFormed_enqueued _ _ _ _ _ _ _
      · intro d hd
        rw [List.mem_singleton.mp hd]
        exact .inr ⟨G, rfl, T.buf, ∅, ∅, 0, 0, s.issued, rfl, fun x hx => absurd hx (Finset.notMem_empty x)⟩
      · rw [hkk]
        refine .copying (G := G) Ψ rfl hn' rfl (by rw [show G.T.credit = n from hcr]; exact hpos) ⟨rfl, rfl, hne, hX, hXp⟩ htk hS' ?_ ?_ ?_ hk
        · exact fun ℓ _ _ i _ => rfl
        · exact .inl ⟨T.buf, ∅, ∅, 0, 0, s.issued, List.mem_cons_self, fun x hx => absurd hx (Finset.notMem_empty x)⟩
        · exact fun m hoff hhas => h' s.mem m hΦ hoff hhas
      · subst hsize
        have : dmaWeight T ≤ 2 * Fintype.card sh.Idx + 2 * n + 1 := by
          rw [hn]; exact weight_enqueued (Dev.tc c) src.view (.here dst) via (.dma sem) _ s.issued
        simp only [List.map_cons, List.map_nil, List.sum_cons, List.sum_nil, Act.weight]
        omega
  | @copying _ _ G κ sem b sh e h1 k l g n Ψ hg hn hdst hpos own htk hS off hp h' hk =>
    rw [Option.bind_some] at h
    simp only [coreStepInner, effStep] at h
    split at h
    · rename_i hle
      simp only [Option.map_some, Option.some.injEq, Prod.mk.injEq] at h
      obtain ⟨rfl, rfl⟩ := h
      subst hs'
      -- nothing is owed to the cell any more
      have hT : ∑ x, takes g (rem x) = n := by
        rw [Finset.sum_eq_single c]
        · rw [hl, takes_cons, htk]; simp [Act.takes]
        · intro x _ hx
          refine takes_eq_zero fun n' hm => hx ?_
          have h2 := hown x g n' ((I.suf x).subset hm)
          rw [hg] at h2
          exact (congrArg Prod.fst h2).symm
        · exact fun hx => absurd (Finset.mem_univ c) hx
      have hbal := I.bal g
      rw [hT] at hbal
      have hle' : (n : ℤ) ≤ s.mem.sem g := by rw [hn, hg]; exact hle
      have hO : (s.dmas.map (owed g)).sum = 0 := by omega
      have hall : ∀ d ∈ s.dmas, d.dstSem = g → 0 < d.credit → d.written = Finset.univ := by
        intro d hd hdg hpos
        have h0 : owed g d = 0 := by
          refine Nat.le_zero.mp (hO ▸ List.single_le_sum (fun _ _ => Nat.zero_le _) _ (List.mem_map_of_mem hd))
        unfold owed at h0
        rw [if_pos hdg] at h0
        exact (I.wf d hd).done hpos (Nat.le_antisymm (I.wf d hd).dst_le (by omega))
      have hdone : ∀ x ∈ G.X, G.Has s.mem x := by
        rcases hp with ⟨buf, rd, wr, sp, dp, st, he, hw⟩ | hp
        · have := hall _ he hdst hpos
          exact fun x hx => hw x (by rw [show wr = Finset.univ from this]; exact Finset.mem_univ x) hx
        · exact hp
      have hΨ := h' s.mem off hdone
      refine I.core hP c hl (by rw [hpr]; rfl) _ rfl rfl rfl rfl [] rfl (fun g' => ?_)
        (fun g' => ?_) (by simp) (fun c' _ => privEq_refl c' _) none (by simp) ?_ ?_ (by simp [Act.weight])
      · subst hn hg
        by_cases hgg : g' = (Dev.tc c, SemLoc.dma sem)
        · subst hgg; simp [Act.takes, Act.brings, RunSt.setProg, Phys.subSem]
        · simp [Act.takes, Act.brings, RunSt.setProg, Phys.subSem, Function.update_of_ne hgg, Ne.symm hgg]
      · by_cases hgg : g' = (Dev.tc c, SemLoc.dma sem)
        · subst hgg; simpa [RunSt.setProg, Phys.subSem] using hle
        · simpa [RunSt.setProg, Phys.subSem, Function.update_of_ne hgg] using I.nonneg g'
      · intro d hd G' hG' hIs
        rw [hph] at hG'
        cases hG'
        obtain ⟨buf, rd, wr, sp, dp, st, rfl, -⟩ := hIs
        exact .inl (.inr (hall _ hd hdst hpos))
      · exact .run Ψ hk hS (hS s.mem _ (privEq_refl c _) hΨ)
    · cases h

end

section
variable {defs : Defs nD τ sig Val Λ} {priv : (ℓ : Loc nD τ sig) → Set (Idx ℓ)} {Post : Dev nD → MemSt nD τ sig Val → Prop}
  {script : Dev nD → List (Act nD τ sig)}

theorem card_toRead_lt (d : Dma nD τ sig Val) {M : Finset d.shape.Idx} (h : d.Reads M) (f : Buf Val d.src) :
    (d.afterRead M f).toRead.card < d.toRead.card := by
  refine Finset.card_lt_card ⟨fun x hx => ?_, fun hc => ?_⟩
  · have h1 := (Finset.mem_sdiff.mp hx).2
    exact Finset.mem_sdiff.mpr ⟨Finset.mem_univ _, fun h2 => h1 (Finset.mem_union_left _ h2)⟩
  · obtain ⟨x, hx⟩ := h.2
    exact (Finset.mem_sdiff.mp (hc (h.1 hx))).2 (Finset.mem_union_right _ hx)

theorem card_toWrite_lt (d : Dma nD τ sig Val) {M : Finset d.shape.Idx} (h : d.Writes M) :
    (d.afterWrite M).toWrite.card < d.toWrite.card := by
  refine Finset.card_lt_card ⟨fun x hx => ?_, fun hc => ?_⟩
  · have h1 := (Finset.mem_sdiff.mp hx).2
    exact Finset.mem_sdiff.mpr ⟨Finset.mem_univ _, fun h2 => h1 (Finset.mem_union_left _ h2)⟩
  · obtain ⟨x, hx⟩ := h.2
    have h2 := Finset.mem_sdiff.mp (h.1 hx)
    exact (Finset.mem_sdiff.mp (hc (Finset.mem_sdiff.mpr ⟨Finset.mem_univ _, h2.2⟩))).2 (Finset.mem_union_right _ hx)

theorem srcFor_eq {s : Phys nD τ sig Val} (h : s.ops = fun _ => none) (d : Dma nD τ sig Val) (alt : Buf Val d.src) :
    s.srcFor d alt = s.mem.mem d.src := by
  unfold Phys.srcFor Phys.opWrites
  rw [h]
  simp

/-- The cases of the transfers after the one at a position is replaced. -/
theorem forall_set {l : List (Dma nD τ sig Val)} {i : Nat} {d d' : Dma nD τ sig Val} {P : Dma nD τ sig Val → Prop}
    (h : ∀ e ∈ l, P e) (hd : P d') : ∀ e ∈ l.set i d', P e := by
  intro e he
  rcases List.mem_or_eq_of_mem_set he with he | rfl
  · exact h e he
  · exact hd

theorem At.own {c : Dev nD} {l : List (Act nD τ sig)} {G : Ghost nD τ sig Val} {Q : MemSt nD τ sig Val → Prop}
    {p : Option (Prog (TpuEff nD τ sig Val Λ (Proc.tc : Proc τ)) PUnit)} {m : MemSt nD τ sig Val} {ds : List (Dma nD τ sig Val)}
    (h : At defs priv Q c l (some G) p m ds) : Own priv c G ∧ Off priv c G m := by
  cases h with
  | copying Ψ hg hn hdst hpos own htk hS off hp h hk => exact ⟨own, off⟩

theorem Inv.step_read {s : RunSt nD τ sig Val Λ} {rem : Dev nD → List (Act nD τ sig)} {ph : Dev nD → Option (Ghost nD τ sig Val)}
    (hP : ∀ c, Stable priv c (Post c)) (I : Inv defs priv Post script s rem ph) (i : Nat) {d : Dma nD τ sig Val}
    (M : Finset d.shape.Idx) (alt : Buf Val d.src) (h : s.dmas[i]? = some d) (hM : d.Reads M) :
    ∃ rem' ph', Inv defs priv Post script (s.dmaRead i d M alt) rem' ph' ∧ mu (s.dmaRead i d M alt) rem' < mu s rem := by
  have hd := List.mem_of_getElem? h
  have hf : s.toPhys.srcFor d alt = s.mem.mem d.src := srcFor_eq I.ops d alt
  have key : (s.dmaRead i d M alt).dmas = s.dmas.set i (d.afterRead M (s.mem.mem d.src)) := by
    show s.dmas.set i (d.afterRead M (s.toPhys.srcFor d alt)) = _
    rw [hf]
  refine I.engine rfl rfl rfl I.ops (fun g => ?_) I.nonneg ?_ ?_ (fun c => ?_) ?_
  · have := sum_set (owed g) (b := d.afterRead M (s.mem.mem d.src)) h
    have e : owed g (d.afterRead M (s.mem.mem d.src)) = owed g d := rfl
    rw [key]
    show s.mem.sem g + _ = _
    omega
  · rw [key]
    exact forall_set (d := d) I.wf ⟨(I.wf d hd).src_le, (I.wf d hd).dst_le, (I.wf d hd).done⟩
  · rw [key]
    refine forall_set (d := d) I.dma ?_
    rcases I.dma d hd with h' | ⟨c, G, hc, buf, rd, wr, sp, dp, st, rfl, hb⟩
    · exact .inl h'
    · refine .inr ⟨c, G, hc, _, _, wr, sp, dp, st, rfl, fun x hx hX => ?_⟩
      have hA := I.dev c
      rw [hc] at hA
      obtain ⟨own, off⟩ := hA.own
      by_cases hxM : x ∈ M
      · refine (if_pos hxM).trans ?_
        exact own.reads _ _ (fun j hj => off G.T.src own.src own.ne j hj) x hX
      · refine (if_neg hxM).trans (hb x ?_ hX)
        exact (Finset.mem_union.mp hx).resolve_right hxM
  · refine (I.dev c).mono (hP c) (privEq_refl c _) fun e he => ?_
    rw [key]
    rcases mem_set_of_mem (b := d.afterRead M (s.mem.mem d.src)) h he with he | rfl
    · exact .inl ⟨e, he, Keep.refl e⟩
    · exact .inl ⟨_, mem_set_self h, _, _, _, _, _, rfl⟩
  · have := sum_set dmaWeight (b := d.afterRead M (s.mem.mem d.src)) h
    have e : dmaWeight (d.afterRead M (s.mem.mem d.src)) < dmaWeight d := by
      have := card_toRead_lt d hM (s.mem.mem d.src)
      show _ + d.toWrite.card + (d.credit - d.srcPaid) + (d.credit - d.dstPaid) + 1 < _
      unfold dmaWeight
      omega
    rw [key]; omega

theorem Inv.step_write {s : RunSt nD τ sig Val Λ} {rem : Dev nD → List (Act nD τ sig)} {ph : Dev nD → Option (Ghost nD τ sig Val)}
    (hP : ∀ c, Stable priv c (Post c)) (I : Inv defs priv Post script s rem ph) (i : Nat) {d : Dma nD τ sig Val}
    (M : Finset d.shape.Idx) (h : s.dmas[i]? = some d) (hM : d.Writes M) :
    ∃ rem' ph', Inv defs priv Post script (s.dmaWrite i d M) rem' ph' ∧ mu (s.dmaWrite i d M) rem' < mu s rem := by
  have hd := List.mem_of_getElem? h
  have key : (s.dmaWrite i d M).dmas = s.dmas.set i (d.afterWrite M) := rfl
  have hnu : d.written ≠ Finset.univ := fun hu => by
    obtain ⟨x, hx⟩ := hM.2
    exact (Finset.mem_sdiff.mp (hM.1 hx)).2 (by rw [hu]; exact Finset.mem_univ x)
  refine I.engine rfl rfl rfl ?_ (fun g => ?_) I.nonneg ?_ ?_ (fun c => ?_) ?_
  · show Phys.touch s.ops _ _ _ = _
    rw [I.ops, touch_none]
  · have := sum_set (owed g) (b := d.afterWrite M) h
    have e : owed g (d.afterWrite M) = owed g d := rfl
    rw [key]
    show s.mem.sem g + _ = _
    omega
  · rw [key]
    refine forall_set (d := d) I.wf ⟨(I.wf d hd).src_le, (I.wf d hd).dst_le, fun h1 h2 => ?_⟩
    exact absurd ((I.wf d hd).done h1 h2) hnu
  · rw [key]
    refine forall_set (d := d) I.dma ?_
    rcases I.dma d hd with (h' | h') | ⟨c, G, hc, buf, rd, wr, sp, dp, st, rfl, hb⟩
    · exact .inl (.inl h')
    · exact absurd h' hnu
    · exact .inr ⟨c, G, hc, buf, rd, _, sp, dp, st, rfl, hb⟩
  · -- a device's assertion
    rcases I.dma d hd with (h' | h') | ⟨c', G, hc', buf, rd, wr, sp, dp, st, rfl, hb⟩
    · refine (I.dev c).mono (hP c) ?_ fun e he => ?_
      · intro ℓ hℓ j hj
        by_cases hℓd : ℓ = d.dst
        · subst hℓd
          refine MemSt.dmaWrite_mem_of_not_mem _ _ _ fun hm => ?_
          obtain ⟨x, -, rfl⟩ := Finset.mem_map.mp hm
          exact h' x hj
        · exact congrFun (MemSt.dmaWrite_mem_ne s.mem d M hℓd) j
      · rw [key]
        rcases mem_set_of_mem (b := d.afterWrite M) h he with he | rfl
        · exact .inl ⟨e, he, Keep.refl e⟩
        · exact .inr (.inr (.inl h'))
    · exact absurd h' hnu
    · have hA := I.dev c'
      rw [hc'] at hA
      have own := hA.own.1
      by_cases hcc : c = c'
      · subst hcc
        rw [hc']
        generalize hrem : rem c = l0 at hA
        generalize hprg : s.prog (Dev.tc c) = pr at hA
        cases hA with
        | @copying _ _ _ κ sem b sh e h1 k l g n Ψ hg hn hdst hpos own htk hS off hp h' hk =>
          have hin : ∀ x ∈ M, x ∈ G.X → G.Has (s.dmaWrite i (evo G.T buf rd wr sp dp st) M).mem x := by
            intro x hx hX
            refine (MemSt.dmaWrite_mem_emb s.mem (evo G.T buf rd wr sp dp st) M hx).trans ?_
            refine congrArg _ (hb x ?_ hX)
            exact (Finset.mem_sdiff.mp (hM.1 hx)).1
          have hkeep : ∀ x, G.Has s.mem x → x ∈ G.X → G.Has (s.dmaWrite i (evo G.T buf rd wr sp dp st) M).mem x := by
            intro x hx hX
            by_cases hxM : x ∈ M
            · exact hin x hxM hX
            · refine (MemSt.dmaWrite_mem_of_not_mem s.mem (evo G.T buf rd wr sp dp st) M fun hm => hxM ?_).trans hx
              exact (View.mem_setOn _).mp hm
          refine .copying Ψ hg hn hdst hpos own htk hS ?_ ?_ h' hk
          · intro ℓ h1 h2 j hj
            exact (congrFun (MemSt.dmaWrite_mem_ne s.mem (evo G.T buf rd wr sp dp st) M h2) j).trans (off ℓ h1 h2 j hj)
          · rcases hp with ⟨buf', rd', wr', sp', dp', st', he, hw⟩ | hp
            · rcases mem_set_of_mem (b := (evo G.T buf rd wr sp dp st).afterWrite M) h he with he' | he'
              · exact .inl ⟨buf', rd', wr', sp', dp', st', he', fun x hx hX => hkeep x (hw x hx hX) hX⟩
              · have hwr : wr' = wr := by
                  unfold evo at he'
                  injection he'
                subst hwr
                refine .inl ⟨buf, rd, wr' ∪ M, sp, dp, st, mem_set_self h, fun x hx hX => ?_⟩
                rcases Finset.mem_union.mp hx with hx | hx
                · exact hkeep x (hw x hx hX) hX
                · exact hin x hx hX
            · exact .inr fun x hX => hkeep x (hp x hX) hX
      · refine (I.dev c).mono (hP c) ?_ fun e he => ?_
        · refine privEq_of_ne (c := c') (fun ℓ hℓ => ?_) hcc
          exact MemSt.dmaWrite_mem_ne s.mem (evo G.T buf rd wr sp dp st) M fun e => hℓ (by rw [e]; exact own.dst)
        · rw [key]
          rcases mem_set_of_mem (b := (evo G.T buf rd wr sp dp st).afterWrite M) h he with he | rfl
          · exact .inl ⟨e, he, Keep.refl e⟩
          · exact .inr (.inr (.inr fun e => hcc (e.symm.trans own.dst)))
  · have := sum_set dmaWeight (b := d.afterWrite M) h
    have e : dmaWeight (d.afterWrite M) < dmaWeight d := by
      have := card_toWrite_lt d hM
      show d.toRead.card + _ + (d.credit - d.srcPaid) + (d.credit - d.dstPaid) + 1 < _
      unfold dmaWeight
      omega
    rw [key]; omega

end

section
variable {defs : Defs nD τ sig Val Λ} {priv : (ℓ : Loc nD τ sig) → Set (Idx ℓ)} {Post : Dev nD → MemSt nD τ sig Val → Prop}
  {script : Dev nD → List (Act nD τ sig)}

theorem Inv.step_paySrc {s : RunSt nD τ sig Val Λ} {rem : Dev nD → List (Act nD τ sig)} {ph : Dev nD → Option (Ghost nD τ sig Val)}
    (hP : ∀ c, Stable priv c (Post c)) (I : Inv defs priv Post script s rem ph) (i : Nat) {d : Dma nD τ sig Val}
    (k : Nat) (h : s.dmas[i]? = some d) (hk : d.PaysSrc k) :
    ∃ rem' ph', Inv defs priv Post script (s.dmaPaySrc i d k) rem' ph' ∧ mu (s.dmaPaySrc i d k) rem' < mu s rem := by
  have hd := List.mem_of_getElem? h
  have key : (s.dmaPaySrc i d k).dmas = s.dmas.set i (d.paidSrc k) := rfl
  obtain ⟨hk1, hk2, hk3, hk4⟩ := hk
  obtain ⟨g0, hg0⟩ := Option.isSome_iff_exists.mp hk1
  have hmem : (s.dmaPaySrc i d k).mem = s.mem.addSem g0 k := by
    show s.mem.creditSrc d k = _
    unfold MemSt.creditSrc; rw [hg0]
  have hpe : ∀ c, PrivEq priv c s.mem (s.dmaPaySrc i d k).mem := by
    intro c ℓ hℓ j hj; rw [hmem]; rfl
  refine I.engine rfl rfl rfl ?_ (fun g => ?_) (fun g => ?_) ?_ ?_ (fun c => ?_) ?_
  · show (match d.srcSem with | some g => Phys.touchSem s.ops g | none => s.ops) = _
    rw [hg0, I.ops]; rfl
  · have h1 := sum_set (owed g) (b := d.paidSrc k) h
    have h2 : owed g (d.paidSrc k) + (if g0 = g then k else 0) = owed g d := by
      show ((if d.srcSem = some g then d.credit - (d.srcPaid + k) else 0) + (if d.dstSem = g then d.credit - d.dstPaid else 0)) + _
        = (if d.srcSem = some g then d.credit - d.srcPaid else 0) + (if d.dstSem = g then d.credit - d.dstPaid else 0)
      rw [hg0]
      by_cases hg : g0 = g
      · subst hg; simp only [if_true]; omega
      · rw [if_neg (fun e => hg (Option.some.inj e)), if_neg hg, if_neg (fun e => hg (Option.some.inj e))]; omega
    rw [key, hmem]
    by_cases hg : g0 = g
    · subst hg; rw [if_pos rfl] at h2; rw [addSem_sem_self]; omega
    · rw [if_neg hg] at h2; rw [addSem_sem_ne (Ne.symm hg)]; omega
  · rw [hmem]
    by_cases hg : g0 = g
    · subst hg; rw [addSem_sem_self]; have := I.nonneg g0; omega
    · rw [addSem_sem_ne (Ne.symm hg)]; exact I.nonneg g
  · rw [key]
    exact forall_set (d := d) I.wf ⟨hk3, (I.wf d hd).dst_le, (I.wf d hd).done⟩
  · rw [key]
    refine forall_set (d := d) I.dma ?_
    rcases I.dma d hd with h' | ⟨c, G, hc, buf, rd, wr, sp, dp, st, rfl, hb⟩
    · exact .inl h'
    · exact .inr ⟨c, G, hc, buf, rd, wr, _, dp, st, rfl, hb⟩
  · refine (I.dev c).mono (hP c) (hpe c) fun e he => ?_
    rw [key]
    rcases mem_set_of_mem (b := d.paidSrc k) h he with he | rfl
    · exact .inl ⟨e, he, Keep.refl e⟩
    · exact .inl ⟨_, mem_set_self h, _, _, _, _, _, rfl⟩
  · have := sum_set dmaWeight (b := d.paidSrc k) h
    have e : dmaWeight (d.paidSrc k) < dmaWeight d := by
      show d.toRead.card + d.toWrite.card + (d.credit - (d.srcPaid + k)) + (d.credit - d.dstPaid) + 1 < _
      unfold dmaWeight
      omega
    rw [key]; omega

theorem Inv.step_payDst {s : RunSt nD τ sig Val Λ} {rem : Dev nD → List (Act nD τ sig)} {ph : Dev nD → Option (Ghost nD τ sig Val)}
    (hP : ∀ c, Stable priv c (Post c)) (I : Inv defs priv Post script s rem ph) (i : Nat) {d : Dma nD τ sig Val}
    (k : Nat) (h : s.dmas[i]? = some d) (hk : d.PaysDst k) :
    ∃ rem' ph', Inv defs priv Post script (s.dmaPayDst i d k) rem' ph' ∧ mu (s.dmaPayDst i d k) rem' < mu s rem := by
  have hd := List.mem_of_getElem? h
  have key : (s.dmaPayDst i d k).dmas = s.dmas.set i (d.paidDst k) := rfl
  obtain ⟨hk2, hk3, hk4⟩ := hk
  have hmem : (s.dmaPayDst i d k).mem = s.mem.addSem d.dstSem k := rfl
  have hpe : ∀ c, PrivEq priv c s.mem (s.dmaPayDst i d k).mem := by
    intro c ℓ hℓ j hj; rw [hmem]; rfl
  refine I.engine rfl rfl rfl ?_ (fun g => ?_) (fun g => ?_) ?_ ?_ (fun c => ?_) ?_
  · show Phys.touchSem s.ops _ = _
    rw [I.ops]; rfl
  · have h1 := sum_set (owed g) (b := d.paidDst k) h
    have h2 : owed g (d.paidDst k) + (if d.dstSem = g then k else 0) = owed g d := by
      show ((if d.srcSem = some g then d.credit - d.srcPaid else 0) + (if d.dstSem = g then d.credit - (d.dstPaid + k) else 0)) + _
        = (if d.srcSem = some g then d.credit - d.srcPaid else 0) + (if d.dstSem = g then d.credit - d.dstPaid else 0)
      by_cases hg : d.dstSem = g
      · rw [if_pos hg, if_pos hg, if_pos hg]; omega
      · rw [if_neg hg, if_neg hg, if_neg hg]
    rw [key, hmem]
    by_cases hg : d.dstSem = g
    · subst hg; rw [if_pos rfl] at h2; rw [addSem_sem_self]; omega
    · rw [if_neg hg] at h2; rw [addSem_sem_ne (Ne.symm hg)]; omega
  · rw [hmem]
    by_cases hg : d.dstSem = g
    · subst hg; rw [addSem_sem_self]; have := I.nonneg d.dstSem; omega
    · rw [addSem_sem_ne (Ne.symm hg)]; exact I.nonneg g
  · rw [key]
    exact forall_set (d := d) I.wf ⟨(I.wf d hd).src_le, hk3, fun _ h2 => hk4 h2⟩
  · rw [key]
    refine forall_set (d := d) I.dma ?_
    rcases I.dma d hd with h' | ⟨c, G, hc, buf, rd, wr, sp, dp, st, rfl, hb⟩
    · exact .inl h'
    · exact .inr ⟨c, G, hc, buf, rd, wr, sp, _, st, rfl, hb⟩
  · refine (I.dev c).mono (hP c) (hpe c) fun e he => ?_
    rw [key]
    rcases mem_set_of_mem (b := d.paidDst k) h he with he | rfl
    · exact .inl ⟨e, he, Keep.refl e⟩
    · exact .inl ⟨_, mem_set_self h, _, _, _, _, _, rfl⟩
  · have := sum_set dmaWeight (b := d.paidDst k) h
    have e : dmaWeight (d.paidDst k) < dmaWeight d := by
      show d.toRead.card + d.toWrite.card + (d.credit - d.srcPaid) + (d.credit - (d.dstPaid + k)) + 1 < _
      unfold dmaWeight
      omega
    rw [key]; omega

theorem Inv.step_retire {s : RunSt nD τ sig Val Λ} {rem : Dev nD → List (Act nD τ sig)} {ph : Dev nD → Option (Ghost nD τ sig Val)}
    (hP : ∀ c, Stable priv c (Post c)) (I : Inv defs priv Post script s rem ph) (i : Nat) {d : Dma nD τ sig Val}
    (h : s.dmas[i]? = some d) (hk : d.Retires) :
    ∃ rem' ph', Inv defs priv Post script (s.dmaRetire i) rem' ph' ∧ mu (s.dmaRetire i) rem' < mu s rem := by
  have key : (s.dmaRetire i).dmas = s.dmas.eraseIdx i := rfl
  obtain ⟨hk1, hk2, hk3⟩ := hk
  refine I.engine rfl rfl rfl I.ops (fun g => ?_) I.nonneg ?_ ?_ (fun c => ?_) ?_
  · have h1 := sum_eraseIdx (owed g) h
    have h2 : owed g d = 0 := by
      unfold owed
      have e1 : (if d.dstSem = g then d.credit - d.dstPaid else 0) = 0 := by split <;> omega
      have e2 : (if d.srcSem = some g then d.credit - d.srcPaid else 0) = 0 := by
        rcases hk3 with hk3 | hk3
        · rw [hk3]; rfl
        · split <;> omega
      rw [e1, e2]
    rw [key]
    show s.mem.sem g + _ = _
    omega
  · rw [key]; exact fun e he => I.wf e (List.mem_of_mem_eraseIdx he)
  · rw [key]; exact fun e he => I.dma e (List.mem_of_mem_eraseIdx he)
  · refine (I.dev c).mono (hP c) (privEq_refl c _) fun e he => ?_
    rw [key]
    rcases mem_eraseIdx_of_mem h he with he | rfl
    · exact .inl ⟨e, he, Keep.refl e⟩
    · exact .inr (.inl hk1)
  · have := sum_eraseIdx dmaWeight h
    have e : 0 < dmaWeight d := Nat.succ_pos _
    rw [key]; omega

theorem Inv.step {s s' : RunSt nD τ sig Val Λ} {rem : Dev nD → List (Act nD τ sig)} {ph : Dev nD → Option (Ghost nD τ sig Val)}
    (hP : ∀ c, Stable priv c (Post c)) (hown : ∀ c g n, Act.wait g n ∈ script c → g.1 = Dev.tc c)
    (I : Inv defs priv Post script s rem ph) {a : Agent nD τ} (h : MeshStep defs a s s') :
    ∃ rem' ph', Inv defs priv Post script s' rem' ph' ∧ mu s' rem' < mu s rem := by
  classical
  cases h with
  | @core t ω _ p' m' h =>
    obtain ⟨c, pr⟩ := t
    by_cases hp : pr = .tc
    · subst hp
      exact I.step_device hP hown c ω h rfl
    · -- a thread that is no device's own only returns
      have ht := I.oth (c, pr) hp
      rw [coreStep] at h
      rcases ht with ht | ⟨b, ht⟩
      · rw [ht] at h; cases h
      · rw [ht, Option.bind_some] at h
        simp only [coreStepInner, Option.some.injEq, Prod.mk.injEq] at h
        obtain ⟨rfl, rfl⟩ := h
        refine ⟨rem, ph, ⟨I.streams, I.sigs, I.ops, I.suf, I.nonneg, I.bal, I.wf, I.dma, ?_, ?_⟩, ?_⟩
        · intro d
          have hne : (Dev.tc d : Thread nD τ) ≠ (c, pr) := fun e => hp (congrArg Prod.snd e).symm
          simp only [RunSt.setProg, Function.update_of_ne hne]
          exact I.dev d
        · intro t ht'
          by_cases hne : t = (c, pr)
          · subst hne; exact .inl (by simp only [RunSt.setProg, Function.update_self])
          · simp only [RunSt.setProg, Function.update_of_ne hne]
            exact I.oth t ht'
        · unfold mu
          refine Nat.add_lt_add_left ?_ _
          refine Finset.sum_lt_sum (fun t _ => ?_) ⟨(c, pr), Finset.mem_univ _, ?_⟩
          · by_cases ht' : t = (c, pr)
            · subst ht'; simp [RunSt.setProg]
            · simp [RunSt.setProg, Function.update_of_ne ht']
          · simp [RunSt.setProg, ht]
  | dmaRead i M alt h hM => exact I.step_read hP i M alt h hM
  | dmaWrite i M h hM => exact I.step_write hP i M h hM
  | dmaPaySrc i k h hk => exact I.step_paySrc hP i k h hk
  | dmaPayDst i k h hk => exact I.step_payDst hP i k h hk
  | dmaRetire i h hk => exact I.step_retire hP i h hk
  | serve i k alt h hk => rw [I.streams] at h; simp at h
  | deliver i h => rw [I.sigs] at h; simp at h

/-- A pending transfer always has a step of its own. -/
theorem transfer_step {s : RunSt nD τ sig Val Λ} {i : Nat} {d : Dma nD τ sig Val} (hd : s.dmas[i]? = some d) (hwf : WellFormed d) :
    ∃ a s', MeshStep defs a s s' := by
  classical
  by_cases hr : d.toRead.Nonempty
  · exact ⟨_, _, .dmaRead i d.toRead (s.mem.mem d.src) hd ⟨subset_rfl, hr⟩⟩
  have hru : d.read = Finset.univ := by
    simp only [Finset.not_nonempty_iff_eq_empty, Dma.toRead, Finset.sdiff_eq_empty_iff_subset] at hr
    exact Finset.univ_subset_iff.mp hr
  by_cases hw : d.toWrite.Nonempty
  · refine ⟨_, _, .dmaWrite i d.toWrite hd ⟨fun x hx => ?_, hw⟩⟩
    rw [hru]; exact hx
  have hwu : d.written = Finset.univ := by
    simp only [Finset.not_nonempty_iff_eq_empty, Dma.toWrite, Finset.sdiff_eq_empty_iff_subset] at hw
    exact Finset.univ_subset_iff.mp hw
  by_cases hdp : d.dstPaid < d.credit
  · exact ⟨_, _, .dmaPayDst i (d.credit - d.dstPaid) hd
      ⟨Nat.sub_pos_of_lt hdp, by rw [Nat.add_sub_cancel' (Nat.le_of_lt hdp)], fun _ => hwu⟩⟩
  have hde : d.dstPaid = d.credit := Nat.le_antisymm hwf.dst_le (Nat.not_lt.mp hdp)
  cases hs : d.srcSem with
  | some g =>
    by_cases hsp : d.srcPaid < d.credit
    · exact ⟨_, _, .dmaPaySrc i (d.credit - d.srcPaid) hd
        ⟨by rw [hs]; rfl, Nat.sub_pos_of_lt hsp, by rw [Nat.add_sub_cancel' (Nat.le_of_lt hsp)], fun _ => hru⟩⟩
    · have hse : d.srcPaid = d.credit := Nat.le_antisymm hwf.src_le (Nat.not_lt.mp hsp)
      exact ⟨_, _, .dmaRetire i hd ⟨hwu, hde, .inr hse⟩⟩
  | none => exact ⟨_, _, .dmaRetire i hd ⟨hwu, hde, .inl hs⟩⟩

/-- A device that stands at the action all others have come to, with nothing in flight, has a step. -/
theorem device_step {s : RunSt nD τ sig Val Λ} {rem : Dev nD → List (Act nD τ sig)} {ph : Dev nD → Option (Ghost nD τ sig Val)}
    (hwait : ∀ c g n l, Act.wait g n :: l <:+ script c → ∀ d r, r <:+ script d → r.length ≤ l.length + 1 → brings g r = 0)
    (hexit : ∀ c l, Act.exit :: l <:+ script c → ∀ g d r, r <:+ script d → r.length ≤ l.length + 1 → brings g r = 0 ∧ takes g r = 0)
    (I : Inv defs priv Post script s rem ph) (hds : s.dmas = []) (c : Dev nD) (hmax : ∀ d, (rem d).length ≤ (rem c).length)
    (hp : s.prog (Dev.tc c) ≠ none) : ∃ a s', MeshStep defs a s s' := by
  classical
  have D := I.dev c
  have hsuf := I.suf c
  have sem_wait : ∀ g n l, rem c = Act.wait g n :: l → (n : ℤ) ≤ s.mem.sem g := by
    intro g n l hl
    rw [hl] at hsuf
    have hb := I.bal g
    have h0 : ∑ x, brings g (rem x) = 0 :=
      Finset.sum_eq_zero fun x _ => hwait c g n l hsuf x (rem x) (I.suf x) (by have := hmax x; rw [hl] at this; simpa using this)
    have h1 : takes g (rem c) ≤ ∑ x, takes g (rem x) :=
      Finset.single_le_sum (f := fun x => takes g (rem x)) (fun _ _ => Nat.zero_le _) (Finset.mem_univ c)
    rw [hl, takes_cons] at h1
    simp only [Act.takes, if_true] at h1
    rw [hds, h0] at hb
    simp only [List.map_nil, List.sum_nil] at hb
    omega
  cases hprog : s.prog (Dev.tc c) with
  | none => exact absurd hprog hp
  | some p =>
    -- a step of the thread is a step of the mesh
    have go : ∀ ω, (coreStepInner defs (Dev.tc c) s ω p).isSome = true → ∃ a s', MeshStep defs a s s' := by
      intro ω hx
      obtain ⟨x, hx⟩ := Option.isSome_iff_exists.mp hx
      refine ⟨_, _, .core (Dev.tc c) ω (p' := x.1) (m' := x.2) ?_⟩
      rw [coreStep, hprog, Option.bind_some, hx]
    have ω : Valuation τ sig Val := fun b => s.mem.mem (c, b)
    generalize hl : rem c = l0 at D
    generalize hph : ph c = ph0 at D
    rw [hprog] at D
    cases D with
    | run Φ hr hS hΦ =>
      cases hr with
      | ret => exact go ω rfl
      | load => exact go ω rfl
      | store => exact go ω rfl
      | deviceId => exact go ω rfl
      | @assume P dec k l Φ hP' hk =>
        cases dec with
        | isFalse hn => exact absurd hP' hn
        | isTrue hy => exact go ω rfl
      | call => exact go ω rfl
      | customCall => exact go ω rfl
      | exit Ψ hS' h' hk =>
        rw [hl] at hsuf
        have hz : s.toPhys.scopedZero (Dev.tc c) = true := by
          refine decide_eq_true fun g _ => ?_
          have hb := I.bal g
          have hh := fun x => hexit c _ hsuf g x (rem x) (I.suf x) (by have := hmax x; rw [hl] at this; simpa using this)
          rw [hds, Finset.sum_eq_zero fun x _ => (hh x).1, Finset.sum_eq_zero fun x _ => (hh x).2] at hb
          simpa using hb
        refine go ω ?_
        simp only [coreStepInner, effStep]
        rw [if_pos hz]
        rfl
      | send hroute =>
        refine go ω ?_
        simp only [coreStepInner, effStep]
        rw [if_pos hroute]
        rfl
      | wait hg hn hk =>
        have := sem_wait _ _ _ hl
        rw [hg, hn] at this
        refine go ω ?_
        simp only [coreStepInner, effStep]
        rw [if_pos this]
        rfl
      | copy =>
        refine go ω ?_
        simp only [coreStepInner, effStep]
        rw [if_pos (DmaTarget.routed_here _ _)]
        rfl
    | copying Ψ hg hn =>
      have := sem_wait _ _ _ hl
      rw [hg, hn] at this
      refine go ω ?_
      simp only [coreStepInner, effStep]
      rw [if_pos this]
      rfl

/-- How a program described by balanced lists ends. -/
theorem θ_run_straight {p : Dev nD → Prog (TpuEff nD τ sig Val Λ (Proc.tc : Proc τ)) PUnit} {m : MemSt nD τ sig Val}
    (Φ : Dev nD → MemSt nD τ sig Val → Prop) (hnD : 0 < nD)
    (hsem : m.sem = fun _ => 0)
    (hP : ∀ c, Stable priv c (Post c))
    (hown : ∀ c g n, Act.wait g n ∈ script c → g.1 = Dev.tc c)
    (hbal : ∀ g, ∑ c, brings g (script c) = ∑ c, takes g (script c))
    (hwait : ∀ c g n l, Act.wait g n :: l <:+ script c → ∀ d r, r <:+ script d → r.length ≤ l.length + 1 → brings g r = 0)
    (hexit : ∀ c l, Act.exit :: l <:+ script c → ∀ g d r, r <:+ script d → r.length ≤ l.length + 1 → brings g r = 0 ∧ takes g r = 0)
    (hruns : ∀ c, Runs defs priv (Post c) c (script c) (p c) (Φ c)) (hS : ∀ c, Stable priv c (Φ c)) (hΦ : ∀ c, Φ c m) :
    θ_run defs (onTc p) m (fun r => (∀ c, Post c r.2) ∧ r.2.sem = fun _ => 0) := by
  classical
  have I0 : Inv defs priv Post script (load (onTc p) m) script (fun _ => none) := by
    refine ⟨rfl, rfl, rfl, fun c => List.suffix_refl _, fun g => ?_, fun g => ?_, fun d hd => ?_, fun d hd => ?_, fun c => ?_, fun t ht => ?_⟩
    · show 0 ≤ m.sem g
      rw [hsem]
    · show m.sem g + _ = _
      rw [hsem, ← hbal g]
      simp [load]
    · cases hd
    · cases hd
    · exact .run (Φ c) (hruns c) (hS c) (hΦ c)
    · refine .inr ⟨⟨⟩, ?_⟩
      show some (onTc p t) = _
      rw [onTc_of_ne p t ht]
  have reach : ∀ s, Reaches defs (load (onTc p) m) s → ∃ rem ph, Inv defs priv Post script s rem ph := by
    intro s hs
    unfold Reaches at hs
    induction hs with
    | refl => exact ⟨_, _, I0⟩
    | tail _ hst ih =>
      obtain ⟨rem, ph, I⟩ := ih
      obtain ⟨-, a, hst⟩ := hst
      obtain ⟨rem', ph', I', -⟩ := I.step hP hown hst
      exact ⟨rem', ph', I'⟩
  refine ⟨fun s hs hf => ?_, fun s hs hn => ?_, fun ρ _ => ?_⟩
  · obtain ⟨rem, ph, I⟩ := reach s hs
    have hrem : ∀ c, rem c = [] ∧ Post c s.mem := by
      intro c
      have D := I.dev c
      generalize hl : rem c = l0 at D
      generalize hph : ph c = ph0 at D
      rw [hf (Dev.tc c)] at D
      cases D with
      | done h => exact ⟨rfl, h⟩
    refine ⟨fun c => (hrem c).2, funext fun g => ?_⟩
    have hb := I.bal g
    have h0 : ∑ c, takes g (rem c) = 0 := Finset.sum_eq_zero fun c _ => by rw [(hrem c).1]; rfl
    rw [h0] at hb
    have h1 := I.nonneg g
    show s.mem.sem g = 0
    omega
  · obtain ⟨rem, ph, I⟩ := reach s hs
    cases hds : s.dmas with
    | cons d ds => exact transfer_step (i := 0) (d := d) (by rw [hds]; rfl) (I.wf d (by rw [hds]; exact List.mem_cons_self))
    | nil =>
      -- a thread that is no device's own and has not returned
      by_cases hoth : ∃ t : Thread nD τ, t.2 ≠ .tc ∧ s.prog t ≠ none
      · obtain ⟨t, ht, htn⟩ := hoth
        rcases I.oth t ht with h | ⟨a, h⟩
        · exact absurd h htn
        · refine ⟨_, _, .core t (fun b => s.mem.mem (t.1, b)) (p' := none) (m' := s) ?_⟩
          rw [coreStep, h]; rfl
      · -- the device with most left to do
        haveI : Nonempty (Dev nD) := ⟨⟨0, hnD⟩⟩
        obtain ⟨c, -, hc⟩ := Finset.exists_max_image (Finset.univ : Finset (Dev nD)) (fun c => (rem c).length) Finset.univ_nonempty
        by_cases hprog : s.prog (Dev.tc c) = none
        · -- it has finished, so its list is empty, so all lists are: some other device only has to return
          have hlen : ∀ d, rem d = [] := by
            intro d
            have D := I.dev c
            generalize hl : rem c = l0 at D
            generalize hph : ph c = ph0 at D
            rw [hprog] at D
            cases D with
            | done h =>
              have := hc d (Finset.mem_univ d)
              rw [hl] at this
              exact List.length_eq_zero_iff.mp (Nat.le_zero.mp this)
          have : ∃ d : Dev nD, s.prog (Dev.tc d) ≠ none := by
            by_contra hno
            refine hn fun t => ?_
            obtain ⟨d, pr⟩ := t
            by_cases hpr : pr = .tc
            · subst hpr
              by_contra h
              exact hno ⟨d, h⟩
            · by_contra h
              exact hoth ⟨(d, pr), hpr, h⟩
          obtain ⟨d, hd⟩ := this
          exact device_step hwait hexit I hds d (fun e => by rw [hlen e, hlen d]) hd
        · exact device_step hwait hexit I hds c (fun d => hc d (Finset.mem_univ d)) hprog
  · -- the bound falls for ever
    have key : ∀ n : Nat, ∀ (s : RunSt nD τ sig Val Λ) rem ph, Inv defs priv Post script s rem ph → mu s rem = n →
        ∀ ρ : InfRun defs s, False := by
      intro n
      induction n using Nat.strong_induction_on with
      | _ n ih =>
        intro s rem ph I hmu ρ
        have hst := (ρ.step 0).2
        rw [ρ.head] at hst
        obtain ⟨rem', ph', I', hlt⟩ := I.step hP hown hst
        exact ih _ (hmu ▸ hlt) _ rem' ph' I' rfl
          ⟨fun k => ρ.st (k + 1), fun k => ρ.ag (k + 1), rfl, fun k => ρ.step (k + 1)⟩
    exact key _ _ _ _ I0 rfl ρ

end

end Cert.Straight
-- ==== Proof.A2aSteps.lean ====
/-
  The exchange of slabs as a list of actions: what each device issues and waits for, on which semaphores, that the lists
  balance, and that no wait depends on a later transfer.
-/
module

public import proofs.«01_k».proof.Defs
public import proofs.«01_k».proof.Proof.Gen.A2aIdeal
public import proofs.«01_k».proof.Proof.Gen.A2aIdeal.Skeleton
public import proofs.«01_k».proof.Proof.Gen.A2aIdeal.Points
public import proofs.«01_k».proof.Proof.Gen.A2aIdeal.Launch
public import proofs.«01_k».proof.Proof.Straight
public import Mathlib.Data.List.Infix

@[expose] public section

noncomputable section

open Idealize.ShloMosaic Idealize.ShloMosaic.TcCoe Idealize.SL.Sem
open Cert.Straight
namespace Cert.A2aIdeal.Exchange
open Cert.A2aIdeal Cert.A2aIdeal.Gen

/-! ## What each device does -/

/-- A device and one of its transfer semaphores. -/
abbrev Key := Fin 4 × Fin 9

/-- The semaphore cell that a device and a number name. -/
def cell (k : Key) : GSem nD τ sig := (Dev.tc (k.1 : Dev nD), .dma (k.2 : DmaSem sig))

theorem cell_injective : Function.Injective cell := by
  rintro ⟨a, i⟩ ⟨b, j⟩ h
  have h1 : a = b := congrArg (fun g : GSem nD τ sig => g.1.1) h
  have h2 : i = j := SemLoc.dma.inj (Prod.mk.inj h).2
  rw [h1, h2]

/-- An action, its cells named by device and number. -/
inductive Cmd where
  | skip
  | send (src : Option Key) (dst : Key) (credit size : Nat)
  | wait (k : Key) (n : Nat)
  | exit
deriving DecidableEq

namespace Cmd

/-- The action meant. -/
def act : Cmd → Act nD τ sig
  | .skip => .skip
  | .send src dst n size => .send (src.map cell) (cell dst) n size
  | .wait k n => .wait (cell k) n
  | .exit => .exit

/-- The units the action brings a cell. -/
def brings (k : Key) : Cmd → Nat
  | .send src dst n _ => (if src = some k then n else 0) + (if dst = k then n else 0)
  | _ => 0

/-- The units the action takes from a cell. -/
def takes (k : Key) : Cmd → Nat
  | .wait h n => if h = k then n else 0
  | _ => 0

theorem brings_act (k : Key) (a : Cmd) : a.act.brings (cell k) = a.brings k := by
  cases a with
  | send src dst n size =>
    have e1 : (src.map cell = some (cell k)) ↔ src = some k := by
      cases src <;> simp [cell_injective.eq_iff]
    simp only [act, Act.brings, brings, e1, cell_injective.eq_iff]
  | _ => rfl

theorem takes_act (k : Key) (a : Cmd) : a.act.takes (cell k) = a.takes k := by
  cases a with
  | wait h n => simp only [act, Act.takes, takes, cell_injective.eq_iff]
  | _ => rfl

theorem brings_act_of (g : GSem nD τ sig) (hg : ∀ k, cell k ≠ g) (a : Cmd) : a.act.brings g = 0 := by
  cases a with
  | send src dst n size =>
    have e1 : ¬ (src.map cell = some g) := by
      cases src with
      | none => simp
      | some k => simpa using hg k
    simp only [act, Act.brings, if_neg e1, if_neg (hg dst), Nat.add_zero]
  | _ => rfl

theorem takes_act_of (g : GSem nD τ sig) (hg : ∀ k, cell k ≠ g) (a : Cmd) : a.act.takes g = 0 := by
  cases a with
  | wait h n => simp only [act, Act.takes, if_neg (hg h)]
  | _ => rfl

end Cmd

/-- The cell of device `c` that the other device `d` pays. -/
def arrive (d : Fin 4) : Fin 9 := ⟨5 + d.val, by omega⟩

/-- What device `c` does, in order. -/
def code (c : Fin 4) : List Cmd :=
  [.skip, .skip, .send none (c, 0) 524288 4194304, .wait (c, 0) 524288,
   .skip, .skip, .skip, .skip, .skip, .skip, .skip, .skip, .skip, .skip, .skip, .skip, .skip, .skip, .skip, .skip, .skip,
   .send (some (c, 2)) (c + 1, arrive c) 65536 1048576, .send (some (c, 3)) (c + 2, arrive c) 65536 1048576,
   .send (some (c, 4)) (c + 3, arrive c) 65536 1048576,
   .wait (c, arrive (c + 1)) 65536, .wait (c, arrive (c + 2)) 65536, .wait (c, arrive (c + 3)) 65536,
   .wait (c, 2) 65536, .wait (c, 3) 65536, .wait (c, 4) 65536,
   .send none (c, 1) 262144 4194304, .wait (c, 1) 262144, .exit]

/-- The same as actions. -/
def script (c : Dev nD) : List (Act nD τ sig) := (code c).map Cmd.act

theorem brings_map (k : Key) (l : List Cmd) : brings (cell k) (l.map Cmd.act) = (l.map (Cmd.brings k)).sum := by
  unfold brings
  rw [List.map_map]
  exact congrArg List.sum (List.map_congr_left fun a _ => Cmd.brings_act k a)

theorem takes_map (k : Key) (l : List Cmd) : takes (cell k) (l.map Cmd.act) = (l.map (Cmd.takes k)).sum := by
  unfold takes
  rw [List.map_map]
  exact congrArg List.sum (List.map_congr_left fun a _ => Cmd.takes_act k a)

theorem brings_map_of (g : GSem nD τ sig) (hg : ∀ k, cell k ≠ g) (l : List Cmd) : brings g (l.map Cmd.act) = 0 := by
  unfold brings
  refine List.sum_eq_zero fun x hx => ?_
  obtain ⟨a, ha, rfl⟩ := List.mem_map.mp hx
  obtain ⟨b, hb, rfl⟩ := List.mem_map.mp ha
  exact Cmd.brings_act_of g hg b

theorem takes_map_of (g : GSem nD τ sig) (hg : ∀ k, cell k ≠ g) (l : List Cmd) : takes g (l.map Cmd.act) = 0 := by
  unfold takes
  refine List.sum_eq_zero fun x hx => ?_
  obtain ⟨a, ha, rfl⟩ := List.mem_map.mp hx
  obtain ⟨b, hb, rfl⟩ := List.mem_map.mp ha
  exact Cmd.takes_act_of g hg b

/-- A tail of the actions is the actions of a tail. -/
theorem suffix_map {c : Dev nD} {l : List (Act nD τ sig)} (h : l <:+ script c) : ∃ r, r <:+ code c ∧ r.map Cmd.act = l := by
  obtain ⟨t, ht⟩ := h
  obtain ⟨l₁, l₂, e, e1, e2⟩ := List.map_eq_append_iff.mp ht.symm
  exact ⟨l₂, ⟨l₁, e.symm⟩, e2⟩

/-- A wait is at a cell of the device's own. -/
def okOwn (c : Fin 4) : Cmd → Bool
  | .wait k _ => decide (k.1 = c)
  | _ => true

/-- From the step of a wait on, no device pays its cell. -/
def okWait : List Cmd → Bool
  | .wait k _ :: l => decide (∀ d : Fin 4, ∀ r ∈ (code d).tails, r.length ≤ l.length + 1 → (r.map (Cmd.brings k)).sum = 0)
  | _ => true

/-- From the step at which a region ends on, no device uses a cell. -/
def okExit : List Cmd → Bool
  | .exit :: l => decide (∀ d : Fin 4, ∀ r ∈ (code d).tails, r.length ≤ l.length + 1 →
      ∀ k : Key, (r.map (Cmd.brings k)).sum = 0 ∧ (r.map (Cmd.takes k)).sum = 0)
  | _ => true

theorem own (c : Dev nD) (g : GSem nD τ sig) (n : Nat) (h : Act.wait g n ∈ script c) : g.1 = Dev.tc c := by
  obtain ⟨a, ha, e⟩ := List.mem_map.mp h
  have := (by decide +kernel : ∀ c : Fin 4, ∀ a ∈ code c, okOwn c a = true) c a ha
  cases a with
  | wait k m =>
    obtain ⟨rfl, rfl⟩ := Act.wait.inj e
    have hk : k.1 = c := of_decide_eq_true this
    rw [← hk]; rfl
  | _ => cases e

theorem balance (g : GSem nD τ sig) : ∑ c, brings g (script c) = ∑ c, takes g (script c) := by
  by_cases hg : ∃ k, cell k = g
  · obtain ⟨k, rfl⟩ := hg
    have key : ∀ k : Key, ∑ c : Fin 4, ((code c).map (Cmd.brings k)).sum = ∑ c : Fin 4, ((code c).map (Cmd.takes k)).sum := by
      decide +kernel
    simp only [script, brings_map, takes_map]
    exact key k
  · have hg' : ∀ k, cell k ≠ g := fun k e => hg ⟨k, e⟩
    simp only [script, brings_map_of g hg', takes_map_of g hg']

theorem waits (c : Dev nD) (g : GSem nD τ sig) (n : Nat) (l : List (Act nD τ sig)) (h : Act.wait g n :: l <:+ script c)
    (d : Dev nD) (r : List (Act nD τ sig)) (hr : r <:+ script d) (hl : r.length ≤ l.length + 1) : brings g r = 0 := by
  obtain ⟨l', hl', e⟩ := suffix_map h
  obtain ⟨r', hr', rfl⟩ := suffix_map hr
  have := (by decide +kernel : ∀ c : Fin 4, ∀ l ∈ (code c).tails, okWait l = true) c l' ((List.mem_tails _ _).mpr hl')
  match l', e, this with
  | .wait k m :: l', e, this =>
    obtain ⟨e1, rfl⟩ := List.cons.inj e
    obtain ⟨rfl, rfl⟩ := Act.wait.inj e1
    rw [brings_map]
    exact of_decide_eq_true this d r' ((List.mem_tails _ _).mpr hr') (by simpa using hl)

theorem exits (c : Dev nD) (l : List (Act nD τ sig)) (h : Act.exit :: l <:+ script c) (g : GSem nD τ sig)
    (d : Dev nD) (r : List (Act nD τ sig)) (hr : r <:+ script d) (hl : r.length ≤ l.length + 1) :
    brings g r = 0 ∧ takes g r = 0 := by
  obtain ⟨l', hl', e⟩ := suffix_map h
  obtain ⟨r', hr', rfl⟩ := suffix_map hr
  by_cases hg : ∃ k, cell k = g
  · obtain ⟨k, rfl⟩ := hg
    have := (by decide +kernel : ∀ c : Fin 4, ∀ l ∈ (code c).tails, okExit l = true) c l' ((List.mem_tails _ _).mpr hl')
    match l', e, this with
    | .exit :: l', e, this =>
      obtain ⟨e1, rfl⟩ := List.cons.inj e
      rw [brings_map, takes_map]
      exact of_decide_eq_true this d r' ((List.mem_tails _ _).mpr hr') (by simpa using hl) k
  · have hg' : ∀ k, cell k ≠ g := fun k e => hg ⟨k, e⟩
    exact ⟨brings_map_of g hg' r', takes_map_of g hg' r'⟩

/-! ## Where the kernel's computed positions lie -/

theorem off1_eq (c : Dev nD) : k0_off1 c = ![c.val, 0, 0] := (by decide +kernel : ∀ c : Dev nD, k0_off1 c = ![c.val, 0, 0]) c
theorem off2_eq (c : Dev nD) : k0_off2 c = ![c.val] := (by decide +kernel : ∀ c : Dev nD, k0_off2 c = ![c.val]) c
theorem off3_eq (c : Dev nD) : k0_off3 c = ![c.val, 0, 0] := (by decide +kernel : ∀ c : Dev nD, k0_off3 c = ![c.val, 0, 0]) c

theorem dev1_eq (c : Dev nD) : (⟨k0_dev1 c, k0_dev1_lt c⟩ : Dev nD) = (show Fin 4 from c) + 1 :=
  (by decide +kernel : ∀ c : Dev nD, (⟨k0_dev1 c, k0_dev1_lt c⟩ : Dev nD) = (show Fin 4 from c) + 1) c
theorem dev2_eq (c : Dev nD) : (⟨k0_dev2 c, k0_dev2_lt c⟩ : Dev nD) = (show Fin 4 from c) + 2 :=
  (by decide +kernel : ∀ c : Dev nD, (⟨k0_dev2 c, k0_dev2_lt c⟩ : Dev nD) = (show Fin 4 from c) + 2) c
theorem dev3_eq (c : Dev nD) : (⟨k0_dev3 c, k0_dev3_lt c⟩ : Dev nD) = (show Fin 4 from c) + 3 :=
  (by decide +kernel : ∀ c : Dev nD, (⟨k0_dev3 c, k0_dev3_lt c⟩ : Dev nD) = (show Fin 4 from c) + 3) c

/-- The cell the copy of device `c` is announced at. -/
theorem sem_arrive (c : Dev nD) :
    ((cc0_scratch2.slice (Rect.unit (s := S4) (k0_off2 c) S1.size (k0_off2_inb c))).squeeze S_ squeezes_S1_S_).sem = arrive c :=
  (by decide +kernel : ∀ c : Dev nD, ((cc0_scratch2.slice (Rect.unit (s := S4) (k0_off2 c) S1.size (k0_off2_inb c))).squeeze S_ squeezes_S1_S_).sem = (arrive c : DmaSem sig)) c
theorem sem_from (c : Dev nD) (r : Fin 3) :
    ((cc0_scratch2.slice (Rect.unit (s := S4) (k0_off5 c (BitVec.ofNat 32 (1 + r.val))) S1.size (k0_off5_inb c r))).squeeze S_ squeezes_S1_S_).sem
      = arrive ((show Fin 4 from c) + ⟨1 + r.val, by omega⟩) :=
  (by decide +kernel : ∀ (c : Dev nD) (r : Fin 3), ((cc0_scratch2.slice (Rect.unit (s := S4) (k0_off5 c (BitVec.ofNat 32 (1 + r.val))) S1.size (k0_off5_inb c r))).squeeze S_ squeezes_S1_S_).sem
      = (arrive ((show Fin 4 from c) + ⟨1 + r.val, by omega⟩) : DmaSem sig)) c r

end Cert.A2aIdeal.Exchange
end
-- ==== Proof.A2a.lean ====
/-
  The exchange of slabs on four devices: it ends, keeps its argument, and each device's result holds, in the slab that
  the device sends to itself, that part of its own columns, rounded.

  A device's result is assembled in a staging buffer into which the other devices copy, perhaps before the device has
  entered the kernel.  Of that buffer only the device's own slab is followed: no other device writes it.
-/
module

public import proofs.«01_k».proof.Proof.A2aSteps
public import Idealize.ShloMosaic.Lib.Pipeline.Value
public import proofs.«01_k».proof.Proof.Gen.A2a
public import proofs.«01_k».proof.Proof.Gen.ReferenceA2aIdeal.Run
public import proofs.«01_k».proof.Proof.Gen.On_own_slab
public import Idealize.ShloMosaic.Lib.Quiescent

@[expose] public section

noncomputable section

open Idealize.ShloMosaic Idealize.ShloMosaic.TcCoe Idealize.SL.Sem
open Cert.Straight
namespace Cert.A2aIdeal.Exchange
open Cert.A2aIdeal Cert.A2aIdeal.Gen

variable {F : FTy → Type} [FloatOps F]

/-! ## What the memory holds -/

/-- Where an element of the cut array lies in the uncut one. -/
def place (i : S4x1024x1024.Idx) : S4096x1024.Idx := fun b =>
  match b with
  | 0 => ⟨1024 * (i 0).val + (i 1).val, by
      have h0 : (i 0).val < 4 := (i 0).isLt
      have h1 : (i 1).val < 1024 := (i 1).isLt
      show _ < 4096
      omega⟩
  | 1 => ⟨(i 2).val, (i 2).isLt⟩

/-- The cut array, rounded. -/
def slab (a : Vec F S4096x1024 .f32) : Vec F S4x1024x1024 .bf16 := fun i => FloatOps.truncf .bf16 bitsLt_bf16_f32 (a (place i))

/-- A buffer of device `c`. -/
abbrev at' (c : Dev nD) (b : Ref sig .tc) : Loc nD τ sig := (Dev.tc c : Thread nD τ).loc b

/-- The elements of the output staging buffers that other devices write. -/
def foreign : Set (Σ ℓ : Loc nD τ sig, Idx ℓ) :=
  {p | ∃ (c : Dev nD) (x : S4x1024x1024.Idx), (x 0).val ≠ c.val ∧ p = ⟨at' c cc0_stg1_0, x⟩}

/-- The elements that no other device writes. -/
def priv (ℓ : Loc nD τ sig) : Set (Idx ℓ) := {i | (⟨ℓ, i⟩ : Σ ℓ : Loc nD τ sig, Idx ℓ) ∉ foreign}

/-- What device `c` knows. -/
structure St (c : Dev nD) (a : Vec F S4096x1024 .f32) (b : Bool) (k : Nat) (o r : Bool) (μ : MemSt nD τ sig (Elt F)) : Prop where
  arg : ∀ i : S4096x1024.Idx, μ.mem (at' c main_arg0) i = a i
  stage : b = true → ∀ i : S4096x1024.Idx, μ.mem (at' c cc0_stg0_0) i = a i
  scr : ∀ i : S4x1024x1024.Idx, (i 0).val < k → μ.mem (at' c cc0_scratch0) i = slab a i
  out : o = true → ∀ i : S4x1024x1024.Idx, (i 0).val = c.val → μ.mem (at' c cc0_stg1_0) i = slab a i
  res : r = true → ∀ i : S4x1024x1024.Idx, (i 0).val = c.val → μ.mem (at' c main_v1) i = slab a i

theorem priv_of_ne {c : Dev nD} {b : Ref sig .tc} (h : b ≠ cc0_stg1_0) (i : Idx (at' c b)) : i ∈ priv (at' c b) := by
  rintro ⟨d, x, -, e⟩
  have e1 : at' c b = at' d cc0_stg1_0 := congrArg Sigma.fst e
  exact h (Proc.devRef_injective (sig := sig) (.tc : Proc τ) (Prod.mk.inj e1).2)

theorem mem_priv_out {c d : Dev nD} (i : S4x1024x1024.Idx) : (show Idx (at' c cc0_stg1_0) from i) ∈ priv (at' c cc0_stg1_0) ↔ (i 0).val = c.val := by
  constructor
  · intro h
    by_contra hne
    exact h ⟨c, i, hne, rfl⟩
  · rintro h ⟨d, x, hx, e⟩
    have e1 : at' c cc0_stg1_0 = at' d cc0_stg1_0 := congrArg Sigma.fst e
    obtain rfl : c = d := (Prod.mk.inj e1).1
    have e2 : i = x := eq_of_heq (Sigma.mk.inj e).2
    exact hx (e2 ▸ h)

theorem St.stable (c : Dev nD) (a : Vec F S4096x1024 .f32) (b : Bool) (k : Nat) (o r : Bool) : Stable priv c (St c a b k o r) := by
  intro m m' e h
  refine ⟨fun i => ?_, fun hb i => ?_, fun i hi => ?_, fun ho i hi => ?_, fun hr i hi => ?_⟩
  · rw [e (at' c main_arg0) rfl i (priv_of_ne (c := c) (b := main_arg0) (by decide) i)]; exact h.arg i
  · rw [e (at' c cc0_stg0_0) rfl i (priv_of_ne (c := c) (b := cc0_stg0_0) (by decide) i)]; exact h.stage hb i
  · rw [e (at' c cc0_scratch0) rfl i (priv_of_ne (c := c) (b := cc0_scratch0) (by decide) i)]; exact h.scr i hi
  · rw [e (at' c cc0_stg1_0) rfl i ((mem_priv_out (d := c) i).mpr hi)]; exact h.out ho i hi
  · rw [e (at' c main_v1) rfl i (priv_of_ne (c := c) (b := main_v1) (by decide) i)]; exact h.res hr i hi

/-- A buffer that a region's ends leave alone. -/
theorem not_scoped {b : Ref sig .tc} (h : b.isScoped = false) : (Proc.tc : Proc τ).devRef b ∉ scopedRefs sig (Proc.tc : Proc τ) := by
  rw [scopedRefs_tc]
  intro hm
  obtain ⟨b', hb', e⟩ := Finset.mem_map.mp hm
  obtain rfl : b' = b := Proc.devRef_injective (sig := sig) (.tc : Proc τ) e
  exact Bool.false_ne_true (h.symm.trans (Finset.mem_filter.mp hb').2)

theorem St.exit {c : Dev nD} {a : Vec F S4096x1024 .f32} {b : Bool} {k : Nat} {o r : Bool} {μ : MemSt nD τ sig (Elt F)} (h : St c a b k o r μ)
    (ω : Valuation τ sig (Elt F)) :
    St c a false 0 false r (μ.writeBufs c (scopedRefs sig (Proc.tc : Proc τ)) ω) := by
  refine ⟨fun i => ?_, fun h => (nomatch h), fun _ h => absurd h (Nat.not_lt_zero _), fun h => (nomatch h), fun hr i hi => ?_⟩
  · rw [MemSt.writeBufs_mem_of_not]
    · exact h.arg i
    · exact fun hm => not_scoped (b := main_arg0) rfl hm.2
  · rw [MemSt.writeBufs_mem_of_not]
    · exact h.res hr i hi
    · exact fun hm => not_scoped (b := main_v1) rfl hm.2

/-! ## The loads and stores -/

/-- Two buffers of a device lie apart. -/
theorem at_ne {c d : Dev nD} {b b' : Ref sig .tc} (h : b ≠ b') : at' c b ≠ at' d b' := fun e =>
  h (Proc.devRef_injective (sig := sig) (.tc : Proc τ) (Prod.mk.inj e).2)

/-- An element of a block is one of the cut array's. -/
theorem block_mem {k : Nat} (inb : ∀ b, (![k, 0, 0] : Fin 3 → Nat) b + S1x1024x1024.size b ≤ S4x1024x1024.size b)
    (i : S4x1024x1024.Idx) (hi : (i 0).val = k) : ∃ y, (Rect.unit (s := S4x1024x1024) ![k, 0, 0] S1x1024x1024.size inb).emb y = i := by
  refine ⟨fun b => match b with
    | 0 => ⟨0, Nat.one_pos⟩
    | 1 => ⟨(i 1).val, (i 1).isLt⟩
    | 2 => ⟨(i 2).val, (i 2).isLt⟩, ?_⟩
  funext b
  apply Fin.ext
  match b with
  | 0 => show k + 1 * 0 = (i 0).val; omega
  | 1 => show 0 + 1 * (i 1).val = (i 1).val; omega
  | 2 => show 0 + 1 * (i 2).val = (i 2).val; omega

/-- The first coordinate of an element of a block. -/
theorem block_fst {k : Nat} {off : Fin 3 → Nat} (ho : off = ![k, 0, 0]) (inb : ∀ b, off b + S1x1024x1024.size b ≤ S4x1024x1024.size b) (y : S1x1024x1024.Idx) :
    ((Rect.unit (s := S4x1024x1024) off S1x1024x1024.size inb).emb y 0).val = k := by
  subst ho
  have h0 : (y 0).val = 0 := Nat.lt_one_iff.mp (y 0).isLt
  show k + 1 * (y 0).val = k
  omega

/-- A block of rows of the argument, read off its staging buffer. -/
theorem St.rows {c : Dev nD} {a : Vec F S4096x1024 .f32} {k : Nat} {o r : Bool} {μ : MemSt nD τ sig (Elt F)} (h : St c a true k o r μ)
    (R : Rect S4096x1024) :
    (Memref.whole cc0_stg0_0).view.readAt (Elt F) R.toLoadRect (μ.mem ((Memref.whole cc0_stg0_0).view.loc (Dev.tc c : Thread nD τ))) = fun y => a (R.emb y) :=
  funext fun y => h.stage rfl (R.emb y)

/-- The block stored is the block of the cut array. -/
theorem pay_eq (a : Vec F S4096x1024 .f32) (k : Nat) (inb : ∀ b, (![k, 0, 0] : Fin 3 → Nat) b + S1x1024x1024.size b ≤ S4x1024x1024.size b)
    (inb' : ∀ b, (![1024 * k, 0] : Fin 2 → Nat) b + S1024x1024.size b ≤ S4096x1024.size b) (y : S1x1024x1024.Idx) :
    shapeCast S1x1024x1024 (truncf .bf16 (shapeCast S1024x1024
        (show Vec F S1024x1024 .f32 from fun y => a ((Rect.unit (s := S4096x1024) ![1024 * k, 0] S1024x1024.size inb').emb y))
        shapeCasts_S1024x1024_S1024x1024) bitsLt_bf16_f32) shapeCasts_S1024x1024_S1x1024x1024 y
      = slab a ((Rect.unit (s := S4x1024x1024) ![k, 0, 0] S1x1024x1024.size inb).emb y) := by
  have e := shapeCast_addUnit_apply (![1024, 1024] : Fin 2 → Nat) (truncf .bf16 (shapeCast S1024x1024
        (show Vec F S1024x1024 .f32 from fun y => a ((Rect.unit (s := S4096x1024) ![1024 * k, 0] S1024x1024.size inb').emb y))
        shapeCasts_S1024x1024_S1024x1024) bitsLt_bf16_f32) shapeCasts_S1024x1024_S1x1024x1024 y
  refine e.trans ?_
  rw [shapeCast_self]
  have h0 : (y 0).val = 0 := Nat.lt_one_iff.mp (y 0).isLt
  refine congrArg (fun i => FloatOps.truncf .bf16 bitsLt_bf16_f32 (a i)) ?_
  funext b
  apply Fin.ext
  match b with
  | 0 =>
    show 1024 * k + 1 * (y 1).val = 1024 * (k + 1 * (y 0).val) + (0 + 1 * (y 1).val)
    omega
  | 1 =>
    show 0 + 1 * (y 2).val = 0 + 1 * (y 2).val
    rfl

/-- The store of a block of the cut array. -/
theorem St.put {c : Dev nD} {a : Vec F S4096x1024 .f32} {k : Nat} {μ : MemSt nD τ sig (Elt F)} (h : St c a true k false false μ)
    (inb : ∀ b, (![k, 0, 0] : Fin 3 → Nat) b + S1x1024x1024.size b ≤ S4x1024x1024.size b) (w : Vec F S1x1024x1024 .bf16)
    (hw : ∀ y, w y = slab a ((Rect.unit (s := S4x1024x1024) ![k, 0, 0] S1x1024x1024.size inb).emb y)) :
    St c a true (k + 1) false false (μ.writeView (Dev.tc c : Thread nD τ)
      ((Memref.whole cc0_scratch0).access (Rect.unit (s := S4x1024x1024) ![k, 0, 0] S1x1024x1024.size inb)) w Finset.univ) := by
  refine ⟨fun i => ?_, fun _ i => ?_, fun i hi => ?_, fun h => (nomatch h), fun h => (nomatch h)⟩
  · rw [writeView_mem_ne]
    · exact h.arg i
    · exact at_ne (c := c) (d := c) (b := main_arg0) (b' := cc0_scratch0) (by decide)
  · rw [writeView_mem_ne]
    · exact h.stage rfl i
    · exact at_ne (c := c) (d := c) (b := cc0_stg0_0) (b' := cc0_scratch0) (by decide)
  · by_cases e : (i 0).val = k
    · obtain ⟨y, rfl⟩ := block_mem inb i e
      exact (congrFun writeView_mem_self _).trans ((View.write_emb_of_mem _ _ (Finset.mem_univ y)).trans (hw y))
    · refine ((congrFun writeView_mem_self _).trans (View.write_of_not_mem _ _ _ fun hm => e ?_)).trans (h.scr i (by omega))
      obtain ⟨y, -, rfl⟩ := Finset.mem_map.mp hm
      exact block_fst rfl inb y

/-- The store of the block that stays on the device. -/
theorem St.keep {c : Dev nD} {a : Vec F S4096x1024 .f32} {μ : MemSt nD τ sig (Elt F)} (h : St c a true 4 false false μ)
    {off : Fin 3 → Nat} (ho : off = ![c.val, 0, 0]) (inb : ∀ b, off b + S1x1024x1024.size b ≤ S4x1024x1024.size b) (w : Vec F S1x1024x1024 .bf16)
    (hw : ∀ y, w y = slab a ((Rect.unit (s := S4x1024x1024) off S1x1024x1024.size inb).emb y)) :
    St c a true 4 true false (μ.writeView (Dev.tc c : Thread nD τ)
      ((Memref.whole cc0_stg1_0).access (Rect.unit (s := S4x1024x1024) off S1x1024x1024.size inb)) w Finset.univ) := by
  subst ho
  refine ⟨fun i => ?_, fun _ i => ?_, fun i hi => ?_, fun _ i hi => ?_, fun h => (nomatch h)⟩
  · rw [writeView_mem_ne]
    · exact h.arg i
    · exact at_ne (c := c) (d := c) (b := main_arg0) (b' := cc0_stg1_0) (by decide)
  · rw [writeView_mem_ne]
    · exact h.stage rfl i
    · exact at_ne (c := c) (d := c) (b := cc0_stg0_0) (b' := cc0_stg1_0) (by decide)
  · rw [writeView_mem_ne]
    · exact h.scr i hi
    · exact at_ne (c := c) (d := c) (b := cc0_scratch0) (b' := cc0_stg1_0) (by decide)
  · obtain ⟨y, rfl⟩ := block_mem (k := c.val) inb i hi
    exact (congrFun writeView_mem_self _).trans ((View.write_emb_of_mem _ _ (Finset.mem_univ y)).trans (hw y))

/-- The copies to other devices land outside what those keep to themselves. -/
theorem sent_off (c d : Dev nD) (hne : d ≠ c) (x : S1024x1024.Idx) :
    (show Idx (at' d cc0_stg1_0) from (((Memref.whole cc0_stg1_0).slice (Rect.unit (s := S4x1024x1024) (k0_off3 c) S1x1024x1024.size (k0_off3_inb c)) (fun _ => rfl)).squeeze
      S1024x1024 squeezes_S1x1024x1024_S1024x1024).view.emb x) ∉ priv (at' d cc0_stg1_0) := by
  intro h
  exact hne (Fin.ext ((mem_priv_out (d := d) (c := d) _).mp h).symm |>.trans (Fin.ext (block_fst (off3_eq c) _ _)))

/-! ## Units and sizes -/

theorem cred_in : (Memref.whole cc0_stg0_0 : Memref sig .tc _ _ _).view.dmaCredit = 524288 := by decide +kernel
theorem cred_out : (Memref.whole main_v1 : Memref sig .tc _ _ _).view.dmaCredit = 262144 := by decide +kernel
theorem cred_slab : (cc0_stg1_0 : Ref sig .tc).dmaCredit S1024x1024 .bf16 = 65536 := by decide +kernel
theorem card_in : Fintype.card S4096x1024.Idx = 4194304 := (Shape.card_idx _).trans (by decide +kernel)
theorem card_out : Fintype.card S4x1024x1024.Idx = 4194304 := (Shape.card_idx _).trans (by decide +kernel)
theorem card_slab : Fintype.card S1024x1024.Idx = 1048576 := (Shape.card_idx _).trans (by decide +kernel)
theorem routes (c d : Dev nD) : τ.routes (Dev.tc c : Thread nD τ) (Dev.tc d : Thread nD τ) = true := by
  unfold Topo.routes
  simp

theorem emb_blk0 (x : S4096x1024.Idx) : (show S4096x1024.Idx from ((cfg0.win 0).blk t0_0).view.emb x) = x := by
  funext b
  apply Fin.ext
  match b with
  | 0 => show 0 + 1 * (x 0).val = (x 0).val; omega
  | 1 => show 0 + 1 * (x 1).val = (x 1).val; omega
theorem emb_stg0 (x : S4096x1024.Idx) : (show S4096x1024.Idx from ((cfg0.win 0).stg t0_0 0).view.emb x) = x := by
  funext b
  apply Fin.ext
  match b with
  | 0 => show 0 + 1 * (x 0).val = (x 0).val; omega
  | 1 => show 0 + 1 * (x 1).val = (x 1).val; omega
theorem emb_blk1 (x : S4x1024x1024.Idx) : (show S4x1024x1024.Idx from ((cfg0.win 1).blk t0_0).view.emb x) = x := by
  funext b
  apply Fin.ext
  match b with
  | 0 => show 0 + 1 * (x 0).val = (x 0).val; omega
  | 1 => show 0 + 1 * (x 1).val = (x 1).val; omega
  | 2 => show 0 + 1 * (x 2).val = (x 2).val; omega
theorem emb_stg1 (x : S4x1024x1024.Idx) : (show S4x1024x1024.Idx from ((cfg0.win 1).stg t0_0 0).view.emb x) = x := by
  funext b
  apply Fin.ext
  match b with
  | 0 => show 0 + 1 * (x 0).val = (x 0).val; omega
  | 1 => show 0 + 1 * (x 1).val = (x 1).val; omega
  | 2 => show 0 + 1 * (x 2).val = (x 2).val; omega

/-- What device `c` has at the end. -/
def Post (a : Dev nD → Vec F S4096x1024 .f32) (c : Dev nD) (μ : MemSt nD τ sig (Elt F)) : Prop := St c (a c) false 0 false true μ

set_option maxHeartbeats 1000000 in
theorem runs (a : Dev nD → Vec F S4096x1024 .f32) (c : Dev nD) :
    Runs (defs (F := F)) priv (Post a c) c (script c) (main (F := F) c) (St c (a c) false 0 false false) := by
  refine Runs.customCall (St c (a c) false 0 false false) (St.stable _ _ _ _ _ _) (fun m ω h => h.exit ω) ?_
  refine Runs.assume ?_ ?_
  · exact trivial
  refine Runs.copy (St c (a c) true 0 false false) Set.univ rfl ?_ ?_ (by decide) ?_ rfl ?_ ?_ ?_ ?_ (St.stable _ _ _ _ _ _) ?_ ?_
  · exact cred_in.symm
  · exact cred_in.symm
  · exact card_in.symm
  · exact at_ne (c := c) (d := c) (b := main_arg0) (b' := cc0_stg0_0) (by decide)
  · intro f f' hf x _
    exact hf _ (priv_of_ne (c := c) (b := main_arg0) (by decide) _)
  · exact fun x _ => priv_of_ne (c := c) (b := cc0_stg0_0) (by decide) _
  · exact (takes_map (c, 0) _).trans ((by decide +kernel : ∀ c : Fin 4, (((code c).drop 4).map (Cmd.takes (c, 0))).sum = 0) c)
  · intro m₀ m h hrest hX
    refine ⟨fun i => ?_, fun _ i => ?_, fun i hi => absurd hi (Nat.not_lt_zero _), fun h => (nomatch h), fun h => (nomatch h)⟩
    · rw [hrest (at' c main_arg0) rfl (at_ne (c := c) (d := c) (b := main_arg0) (b' := cc0_stg0_0) (by decide)) i (priv_of_ne (c := c) (b := main_arg0) (by decide) i)]
      exact h.arg i
    · have e := hX i trivial
      exact ((congrArg (m.mem (at' c cc0_stg0_0)) (emb_stg0 i)).symm.trans e).trans
        ((congrArg (m₀.mem (at' c main_arg0)) (emb_blk0 i)).trans (h.arg i))
  refine Runs.call ?_
  refine Runs.deviceId ?_
  refine Runs.load (fun v μ => St c (a c) true 0 false false μ ∧ v = fun y => a c ((Rect.unit (s := S4096x1024) ![0, 0] S1024x1024.size inb_S4096x1024_S1024x1024_0_0).emb y))
    (fun _ _ _ e h => ⟨St.stable _ _ _ _ _ _ _ _ e h.1, h.2⟩) (fun _ h => ⟨h, h.rows _⟩) fun v => ?_
  refine Runs.load (fun _ μ => St c (a c) true 0 false false μ ∧ v = fun y => a c ((Rect.unit (s := S4096x1024) ![0, 0] S1024x1024.size inb_S4096x1024_S1024x1024_0_0).emb y))
    (fun _ _ _ e h => ⟨St.stable _ _ _ _ _ _ _ _ e h.1, h.2⟩) (fun _ h => h) fun _ => ?_
  refine Runs.store (St c (a c) true 1 false false) (St.stable _ _ _ _ _ _) ?_ ?_
  · rintro m ⟨h, rfl⟩
    exact h.put _ _ (pay_eq (a c) 0 _ _)
  refine Runs.load (fun v μ => St c (a c) true 1 false false μ ∧ v = fun y => a c ((Rect.unit (s := S4096x1024) ![1024, 0] S1024x1024.size inb_S4096x1024_S1024x1024_1024_0).emb y))
    (fun _ _ _ e h => ⟨St.stable _ _ _ _ _ _ _ _ e h.1, h.2⟩) (fun _ h => ⟨h, h.rows _⟩) fun v => ?_
  refine Runs.load (fun _ μ => St c (a c) true 1 false false μ ∧ v = fun y => a c ((Rect.unit (s := S4096x1024) ![1024, 0] S1024x1024.size inb_S4096x1024_S1024x1024_1024_0).emb y))
    (fun _ _ _ e h => ⟨St.stable _ _ _ _ _ _ _ _ e h.1, h.2⟩) (fun _ h => h) fun _ => ?_
  refine Runs.store (St c (a c) true 2 false false) (St.stable _ _ _ _ _ _) ?_ ?_
  · rintro m ⟨h, rfl⟩
    exact h.put _ _ (pay_eq (a c) 1 _ _)
  refine Runs.load (fun v μ => St c (a c) true 2 false false μ ∧ v = fun y => a c ((Rect.unit (s := S4096x1024) ![2048, 0] S1024x1024.size inb_S4096x1024_S1024x1024_2048_0).emb y))
    (fun _ _ _ e h => ⟨St.stable _ _ _ _ _ _ _ _ e h.1, h.2⟩) (fun _ h => ⟨h, h.rows _⟩) fun v => ?_
  refine Runs.load (fun _ μ => St c (a c) true 2 false false μ ∧ v = fun y => a c ((Rect.unit (s := S4096x1024) ![2048, 0] S1024x1024.size inb_S4096x1024_S1024x1024_2048_0).emb y))
    (fun _ _ _ e h => ⟨St.stable _ _ _ _ _ _ _ _ e h.1, h.2⟩) (fun _ h => h) fun _ => ?_
  refine Runs.store (St c (a c) true 3 false false) (St.stable _ _ _ _ _ _) ?_ ?_
  · rintro m ⟨h, rfl⟩
    exact h.put _ _ (pay_eq (a c) 2 _ _)
  refine Runs.load (fun v μ => St c (a c) true 3 false false μ ∧ v = fun y => a c ((Rect.unit (s := S4096x1024) ![3072, 0] S1024x1024.size inb_S4096x1024_S1024x1024_3072_0).emb y))
    (fun _ _ _ e h => ⟨St.stable _ _ _ _ _ _ _ _ e h.1, h.2⟩) (fun _ h => ⟨h, h.rows _⟩) fun v => ?_
  refine Runs.load (fun _ μ => St c (a c) true 3 false false μ ∧ v = fun y => a c ((Rect.unit (s := S4096x1024) ![3072, 0] S1024x1024.size inb_S4096x1024_S1024x1024_3072_0).emb y))
    (fun _ _ _ e h => ⟨St.stable _ _ _ _ _ _ _ _ e h.1, h.2⟩) (fun _ h => h) fun _ => ?_
  refine Runs.store (St c (a c) true 4 false false) (St.stable _ _ _ _ _ _) ?_ ?_
  · rintro m ⟨h, rfl⟩
    exact h.put _ _ (pay_eq (a c) 3 _ _)
  refine Runs.load (fun v μ => St c (a c) true 4 false false μ ∧ v = fun y => slab (a c) ((Rect.unit (s := S4x1024x1024) (k0_off1 c) S1x1024x1024.size (k0_off1_inb c)).emb y))
    (fun _ _ _ e h => ⟨St.stable _ _ _ _ _ _ _ _ e h.1, h.2⟩) (fun _ h => ⟨h, funext fun y => h.scr _ (Fin.isLt _)⟩) fun v => ?_
  refine Runs.load (fun _ μ => St c (a c) true 4 false false μ ∧ v = fun y => slab (a c) ((Rect.unit (s := S4x1024x1024) (k0_off1 c) S1x1024x1024.size (k0_off1_inb c)).emb y))
    (fun _ _ _ e h => ⟨St.stable _ _ _ _ _ _ _ _ e h.1, h.2⟩) (fun _ h => h) fun _ => ?_
  refine Runs.store (St c (a c) true 4 true false) (St.stable _ _ _ _ _ _) ?_ ?_
  · rintro m ⟨h, rfl⟩
    exact h.keep (off1_eq c) _ _ fun y => congrFun (shapeCast_shapeCast _ _ _) y
  refine Runs.send (routes c _) rfl ?_ cred_slab.symm card_slab.symm (sent_off c _ ?_) ?_
  · exact Prod.ext (congrArg Dev.tc (dev1_eq c).symm) (congrArg SemLoc.dma (sem_arrive c).symm)
  · exact (by decide +kernel : ∀ c : Dev nD, (⟨k0_dev1 c, k0_dev1_lt c⟩ : Dev nD) ≠ c) c
  refine Runs.send (routes c _) rfl ?_ cred_slab.symm card_slab.symm (sent_off c _ ?_) ?_
  · exact Prod.ext (congrArg Dev.tc (dev2_eq c).symm) (congrArg SemLoc.dma (sem_arrive c).symm)
  · exact (by decide +kernel : ∀ c : Dev nD, (⟨k0_dev2 c, k0_dev2_lt c⟩ : Dev nD) ≠ c) c
  refine Runs.send (routes c _) rfl ?_ cred_slab.symm card_slab.symm (sent_off c _ ?_) ?_
  · exact Prod.ext (congrArg Dev.tc (dev3_eq c).symm) (congrArg SemLoc.dma (sem_arrive c).symm)
  · exact (by decide +kernel : ∀ c : Dev nD, (⟨k0_dev3 c, k0_dev3_lt c⟩ : Dev nD) ≠ c) c
  refine Runs.wait (Prod.ext rfl (congrArg SemLoc.dma (sem_from c 0).symm)) cred_slab.symm ?_
  refine Runs.wait (Prod.ext rfl (congrArg SemLoc.dma (sem_from c 1).symm)) cred_slab.symm ?_
  refine Runs.wait (Prod.ext rfl (congrArg SemLoc.dma (sem_from c 2).symm)) cred_slab.symm ?_
  refine Runs.wait rfl cred_slab.symm ?_
  refine Runs.wait rfl cred_slab.symm ?_
  refine Runs.wait rfl cred_slab.symm ?_
  refine Runs.copy (St c (a c) false 0 false true) {x | (x 0).val = c.val} rfl ?_ ?_ (by decide) ?_ rfl ?_ ?_ ?_ ?_ (St.stable _ _ _ _ _ _) ?_ ?_
  · exact cred_out.symm
  · exact cred_out.symm
  · exact card_out.symm
  · exact at_ne (c := c) (d := c) (b := cc0_stg1_0) (b' := main_v1) (by decide)
  · intro f f' hf x hx
    exact hf _ ((mem_priv_out (d := c) (c := c) _).mpr ((congrArg (fun i : S4x1024x1024.Idx => (i 0).val) (emb_stg1 x)).trans hx))
  · exact fun x _ => priv_of_ne (c := c) (b := main_v1) (by decide) _
  · exact (takes_map (c, 1) _).trans ((by decide +kernel : ∀ c : Fin 4, (((code c).drop 32).map (Cmd.takes (c, 1))).sum = 0) c)
  · intro m₀ m h hrest hX
    refine ⟨fun i => ?_, fun h => (nomatch h), fun i hi => absurd hi (Nat.not_lt_zero _), fun h => (nomatch h), fun _ i hi => ?_⟩
    · rw [hrest (at' c main_arg0) rfl (at_ne (c := c) (d := c) (b := main_arg0) (b' := main_v1) (by decide)) i (priv_of_ne (c := c) (b := main_arg0) (by decide) i)]
      exact h.arg i
    · have e := hX i hi
      exact ((congrArg (m.mem (at' c main_v1)) (emb_blk1 i)).symm.trans e).trans
        ((congrArg (m₀.mem (at' c cc0_stg1_0)) (emb_stg1 i)).trans (h.out rfl i hi))
  refine Runs.exit (Post a c) (St.stable _ _ _ _ _ _) (fun m ω h => h.exit ω) ?_
  exact Runs.ret fun _ h => h

/-- The exchange ends: every argument is kept, every counter is at zero, and every device holds the block it keeps. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem (at' c main_arg0) = m (at' c main_arg0)
        ∧ ∀ i : S4x1024x1024.Idx, (i 0).val = c.val → r.2.mem (at' c main_v1) i = slab (m (at' c main_arg0)) i)
      ∧ r.2.sem = fun _ => 0) :=
  (θ_run (defs (F := F)) _ _).mono (fun _ h => ⟨fun c => ⟨funext (h.1 c).arg, (h.1 c).res rfl⟩, h.2⟩)
    (θ_run_straight (defs := defs (F := F)) (priv := priv) (Post := Post fun c => m (at' c main_arg0)) (script := script)
      (fun c => St c (m (at' c main_arg0)) false 0 false false) (by decide) rfl (fun _ => St.stable _ _ _ _ _ _) own balance waits exits
      (fun c => runs (fun c => m (at' c main_arg0)) c) (fun _ => St.stable _ _ _ _ _ _)
      fun _ => ⟨fun _ => rfl, fun h => (nomatch h), fun _ h => absurd h (Nat.not_lt_zero _), fun h => (nomatch h), fun h => (nomatch h)⟩)

end Cert.A2aIdeal.Exchange

namespace Cert.Proof.A2aClaims

open Cert.A2aIdeal.Exchange

/-- The exchange ends, its argument kept and its counters at zero. -/
theorem kept {F : FTy → Type} [FloatOps F] (m : (ℓ : Loc Cert.A2aIdeal.nD Cert.A2aIdeal.τ Cert.A2aIdeal.sig) → Buf (Elt F) ℓ)
    (ρ : Dev Cert.A2aIdeal.nD → PrngReg) :
    θ_run (Cert.A2aIdeal.defs (F := F)) (onTc (τ := Cert.A2aIdeal.τ) (Cert.A2aIdeal.main (F := F))) ⟨m, fun _ => 0, ρ⟩ (fun r =>
      (∀ c : Dev Cert.A2aIdeal.nD, r.2.mem ((c.tc : Thread Cert.A2aIdeal.nD Cert.A2aIdeal.τ).loc Cert.A2aIdeal.main_arg0)
        = m ((c.tc : Thread Cert.A2aIdeal.nD Cert.A2aIdeal.τ).loc Cert.A2aIdeal.main_arg0)) ∧ r.2.sem = fun _ => 0) :=
  (θ_run Cert.A2aIdeal.defs _ _).mono (fun _ h => ⟨fun c => (h.1 c).1, h.2⟩) (run_main m ρ)

/-- The ideal exchange's frame. -/
theorem frameIdeal : Cert.quiescent_A2aIdeal := fun m ρ _ => kept m ρ

/-- The two programs have the same text: their label tables are one. -/
theorem table_eq {F : FTy → Type} [FloatOps F] : @Cert.A2a.defs F _ Cert.A2a.Gen.facts = @Cert.A2aIdeal.defs F _ Cert.A2aIdeal.Gen.facts := by
  refine congrArg (Pipeline.defs (@Cert.A2aIdeal.pcfgs F Cert.A2aIdeal.Gen.facts))
    (congrArg (Defs.onTc (nD := Cert.A2a.nD) (τ := Cert.A2a.τ) (sig := Cert.A2a.sig) (Val := Elt F) (Λ := Cert.A2a.Λ₀)) ?_)
  funext l x
  match l, x with
  | 0, (t, s) => rfl

/-- The same of the program over machine numbers. -/
theorem frame : Cert.quiescent_A2a := by
  intro m ρ _
  rw [table_eq]
  exact kept (F := Bits) m ρ

/-- The reference ends, its argument kept; it has no semaphores. -/
theorem frameReference : Cert.quiescent_ReferenceA2aIdeal := fun m ρ _ =>
  (θ_run Cert.ReferenceA2aIdeal.defs _ _).mono
    (fun r h => ⟨fun c => (h c).2, sem_eq_zero_of_no_sems (by decide) r.2⟩)
    (Cert.ReferenceA2aIdeal.Value.run (F := Ideal) m ρ)

/-! ## What the reference has in a device's own block -/

/-- Slab `k` of the mask is set only where its device is its sender. -/
theorem mask_slab : ∀ k : Fin 16, cmpi .eq (Cert.On_own_slab.fn_floor_divide (F := Ideal) (iotaInDim Cert.On_own_slab.S16 32 0) (constantI Cert.On_own_slab.S_ 32 4#32))
      (Cert.On_own_slab.fn_remainder (F := Ideal) (iotaInDim Cert.On_own_slab.S16 32 0) (constantI Cert.On_own_slab.S_ 32 4#32)) (fun b => ⟨k.val, by match b with | 0 => exact k.isLt⟩) = 1#1
    → k.val / 4 = k.val % 4 := by
  decide +kernel

/-- Where the mask is set. -/
theorem mask_own (x : Vec Ideal Cert.On_own_slab.S4096x4096 .f32) (j : Cert.On_own_slab.S16x1024x1024.Idx)
    (h : Cert.On_own_slab.fn (F := Ideal) x j = 1#1) : (j 0).val / 4 = (j 0).val % 4 := by
  refine mask_slab (j 0) ?_
  refine Eq.trans (congrArg _ ?_) h
  funext b
  match b with
  | 0 => rfl

/-- The reference's cut array. -/
abbrev cut (x : Vec Ideal Cert.ReferenceA2aIdeal.S4096x4096 .f32) : Vec Ideal Cert.ReferenceA2aIdeal.S16x1024x1024 .f32 :=
  shapeCast Cert.ReferenceA2aIdeal.S16x1024x1024 (transpose Cert.ReferenceA2aIdeal.S4x4x1024x1024 [0, 2, 1, 3]
    (shapeCast Cert.ReferenceA2aIdeal.S4x1024x4x1024 x Cert.ReferenceA2aIdeal.Gen.facts.shapeCasts_S4096x4096_S4x1024x4x1024)
    Cert.ReferenceA2aIdeal.Gen.facts.transposes_S4x1024x4x1024_S4x4x1024x1024_0_2_1_3)
    Cert.ReferenceA2aIdeal.Gen.facts.shapeCasts_S4x4x1024x1024_S16x1024x1024

/-- An element of the cut array. -/
theorem cut_apply (x : Vec Ideal Cert.ReferenceA2aIdeal.S4096x4096 .f32) (j : Cert.ReferenceA2aIdeal.S16x1024x1024.Idx)
    (p q r s : Nat) (hp : p < 4) (hq : q < 4) (hr : r < 1024) (hs : s < 1024) (e0 : (j 0).val = 4 * p + q) (e1 : (j 1).val = r) (e2 : (j 2).val = s)
    (l : Cert.ReferenceA2aIdeal.S4096x4096.Idx) (l0 : (l 0).val = 1024 * p + r) (l1 : (l 1).val = 1024 * q + s) : cut x j = x l := by
  refine (shapeCast_apply _ _ j (show Cert.ReferenceA2aIdeal.S4x4x1024x1024.Idx from fun b => match b with
    | 0 => ⟨p, hp⟩ | 1 => ⟨q, hq⟩ | 2 => ⟨r, hr⟩ | 3 => ⟨s, hs⟩) ?_).trans ?_
  · rw [Shape.rowMajor_val_four, Shape.rowMajor_val_three]
    show ((p * 4 + q) * 1024 + r) * 1024 + s = ((j 0).val * 1024 + (j 1).val) * 1024 + (j 2).val
    omega
  refine (transpose_apply _ _ _ _ (show Cert.ReferenceA2aIdeal.S4x1024x4x1024.Idx from fun b => match b with
    | 0 => ⟨p, hp⟩ | 1 => ⟨r, hr⟩ | 2 => ⟨q, hq⟩ | 3 => ⟨s, hs⟩) ?_).trans ?_
  · intro b
    match b with
    | 0 => rfl
    | 1 => rfl
    | 2 => rfl
    | 3 => rfl
  refine shapeCast_apply _ _ _ l ?_
  rw [Shape.rowMajor_val_four, Shape.rowMajor_val_two]
  show (l 0).val * 4096 + (l 1).val = ((p * 1024 + r) * 4 + q) * 1024 + s
  omega

/-- The reference's result: the cut array, rounded. -/
abbrev rounded (x : Vec Ideal Cert.ReferenceA2aIdeal.S4096x4096 .f32) : Vec Ideal Cert.ReferenceA2aIdeal.S16x1024x1024 .bf16 :=
  truncf (F := Ideal) (φ := .f32) .bf16 (cut x) Cert.ReferenceA2aIdeal.Gen.facts.bitsLt_bf16_f32

/-- In a device's own block the reference has the device's rounded block. -/
theorem own_value (x : Vec Ideal Cert.ReferenceA2aIdeal.S4096x4096 .f32) (c : Fin 4) (i : Cert.A2aIdeal.S4x1024x1024.Idx) (hi : (i 0).val = c.val)
    (h : Layout.Tiles ⟨2, ![4096, 1024]⟩ ⟨2, ![4096, 4096]⟩ 1 4) (h' : Layout.Tiles ⟨3, ![4, 1024, 1024]⟩ ⟨3, ![16, 1024, 1024]⟩ 0 4) :
    slab (F := Ideal) (Layout.block ⟨2, ![4096, 1024]⟩ ⟨2, ![4096, 4096]⟩ 1 4 c x h) i
      = Layout.block ⟨3, ![4, 1024, 1024]⟩ ⟨3, ![16, 1024, 1024]⟩ 0 4 c (rounded x) h' i := by
  refine congrArg (FloatOps.truncf (F := Ideal) .bf16 _) (cut_apply x (h'.idx c i) c.val (i 0).val (i 1).val (i 2).val c.isLt
    (i 0).isLt (i 1).isLt (i 2).isLt ?_ rfl rfl (h.idx c (place i)) ?_ ?_).symm
  · show c.val * 4 + (i 0).val = _
    omega
  · show 1024 * (i 0).val + (i 1).val = _
    omega
  · show c.val * 1024 + (i 2).val = _
    omega

/-- On the slab that a device sends to itself, kernel and reference agree. -/
theorem algebraic : Cert.algebraic_A2aIdeal_ReferenceA2aIdeal_on_own_slab := by
  intro m g m' g' _ hagree
  refine ⟨rounded (m' (((0 : Dev Cert.ReferenceA2aIdeal.nD).tc : Thread Cert.ReferenceA2aIdeal.nD Cert.ReferenceA2aIdeal.τ).loc Cert.ReferenceA2aIdeal.main_arg0)), ?_, ?_⟩
  · refine (θ_run Cert.A2aIdeal.defs _ _).mono (fun r h c => ⟨fun i hm => ?_, (h.1 c).1⟩) (run_main (F := Ideal) m g)
    have e := mask_own _ _ hm
    have hi : (i 0).val = c.val := by
      have h0 : (i 0).val < 4 := (i 0).isLt
      have hc : c.val < 4 := c.isLt
      have e' : (c.val * 4 + (i 0).val) / 4 = (c.val * 4 + (i 0).val) % 4 := e
      omega
    refine ((h.1 c).2 i hi).trans ?_
    rw [hagree c]
    exact own_value _ c i hi _ _
  · exact (θ_run Cert.ReferenceA2aIdeal.defs _ _).mono (fun r h => ⟨fun i _ => congrFun (h 0).1 i, (h 0).2⟩)
      (Cert.ReferenceA2aIdeal.Value.run (F := Ideal) m' g')

end Cert.Proof.A2aClaims
end
-- ==== Proof.Gemm.lean ====
/-
  The product and its largest magnitude on one device: sixteen column blocks against one whole-array computation.

  Each block of 512 columns is a sum of four products over 1024 rows, which together are one sum over 4096.  The
  running maximum kept from block to block is below a bound exactly when every magnitude seen so far is.
-/
module

public import proofs.«01_k».proof.Defs
public import proofs.«01_k».proof.Proof.Gen.GemmIdeal.Value
public import proofs.«01_k».proof.Proof.Gen.ReferenceGemmIdeal.Run
public import Idealize.ShloMosaic.Lib.Pipeline.ValueKit
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GemmValue

/-- Four sums over 1024 indices, put end to end, are one sum over 4096. -/
theorem sum4 (f : Fin 4096 → EReal) (g0 g1 g2 g3 : Fin 1024 → EReal)
    (h0 : ∀ k : Fin 1024, g0 k = f ⟨k.val, by omega⟩) (h1 : ∀ k : Fin 1024, g1 k = f ⟨1024 + k.val, by omega⟩)
    (h2 : ∀ k : Fin 1024, g2 k = f ⟨2048 + k.val, by omega⟩) (h3 : ∀ k : Fin 1024, g3 k = f ⟨3072 + k.val, by omega⟩) :
    ∑ k, g0 k + ∑ k, g1 k + ∑ k, g2 k + ∑ k, g3 k = ∑ l, f l := by
  have e := Fin.sum_univ_four fun s : Fin 4 => ∑ k : Fin 1024, f ⟨s.val * 1024 + k.val, by omega⟩
  rw [Finset.sum_congr rfl fun k _ => h0 k, Finset.sum_congr rfl fun k _ => h1 k, Finset.sum_congr rfl fun k _ => h2 k,
    Finset.sum_congr rfl fun k _ => h3 k]
  refine Eq.trans ?_ (e.symm.trans (Fin.sum_mul_add_congr fun s k hl => rfl))
  simp

/-- The word the maxima start from is −∞. -/
theorem word_bot : Ideal.ofBits .f32 0xFF800000#32 = ⊥ := by
  simp [Ideal.ofBits, Ideal.ieee]

end Cert.GemmValue

namespace Cert.GemmIdeal.RefValue

open Cert.GemmIdeal Cert.GemmIdeal.Gen

/-- The product as the reference computes it. -/
abbrev prod (x : FVec Ideal S4x1024x1024 .bf16) (w : FVec Ideal S4096x8192 .f32) : FVec Ideal S1024x8192 .f32 :=
  Host.dotGeneral Cert.ReferenceGemmIdeal.dot_S1024x4096_S4096x8192_S1024x8192_1_0_0_1_n_n none
    (shapeCast _ (transpose Cert.ReferenceGemmIdeal.S1024x4x1024 [1, 0, 2] (extf .f32 x Cert.ReferenceGemmIdeal.Gen.bitsLt_bf16_f32)
      Cert.ReferenceGemmIdeal.Gen.transposes_S4x1024x1024_S1024x4x1024_1_0_2) Cert.ReferenceGemmIdeal.Gen.shapeCasts_S1024x4x1024_S1024x4096) w

/-- The largest magnitude as the reference computes it. -/
abbrev top (y : FVec Ideal S1024x8192 .f32) : FVec Ideal S1x1 .f32 :=
  shapeCast _ (Host.reduce FloatOps.maximumf (Host.absf y) (constant Cert.ReferenceGemmIdeal.S_ .f32 0xFF800000#32)
    Cert.ReferenceGemmIdeal.Gen.reducesTo_S1024x8192_S_d0_1 Cert.ReferenceGemmIdeal.Gen.h_S_) Cert.ReferenceGemmIdeal.Gen.shapeCasts_S_S1x1

/-- It is below a bound exactly when every magnitude is. -/
theorem top_le (y : FVec Ideal S1024x8192 .f32) (j : S1x1.Idx) (B : EReal) :
    top y j ≤ B ↔ ∀ i, FloatOps.absf (F := Ideal) (φ := .f32) (y i) ≤ B := by
  pointwise [top]
  rw [Cert.GemmValue.word_bot, Finset.fold_max_le]
  exact ⟨fun h j => by rw [ValueIdx.eq_ix2 j]; exact h.2 (j 0, j 1) (Finset.mem_univ _), fun h => ⟨bot_le, fun _ _ => h _⟩⟩

/-- The largest magnitude of a block is below a bound exactly when every magnitude of the block is. -/
theorem pay3_le (v0 v5 v11 v17 : FVec Ideal S1x1024x1024 .bf16) (v2 v7 v13 v19 : FVec Ideal S1024x512 .f32) (B : EReal) :
    k0_pay3 (F := Ideal) v0 v2 v5 v7 v11 v13 v17 v19 ≤ B
      ↔ ∀ j, FloatOps.absf (F := Ideal) (φ := .f32) (k0_pay2 (F := Ideal) v0 v2 v5 v7 v11 v13 v17 v19 j) ≤ B := by
  pointwise [k0_pay3]
  rw [Cert.GemmValue.word_bot, Finset.fold_max_le]
  exact ⟨fun h j => by rw [ValueIdx.eq_ix2 j]; exact h.2 (j 0, j 1) (Finset.mem_univ _), fun h => ⟨bot_le, fun _ _ => h _⟩⟩

variable (m : (ℓ : Loc nD τ sig) → Buf (Elt Ideal) ℓ)

/-- The windows' index maps over the sixteen points. -/
theorem idx : ∀ t : Fin cfg0.N, win0_0.index t = ![0, 0, 0] ∧ win0_1.index t = ![0, t.val] ∧ win0_2.index t = ![0, t.val] ∧ win0_3.index t = ![0, 0] :=
  (by decide +kernel : ∀ t : Fin grid0.N, _)

/-- The block of the product that a point computes. -/
abbrev tile (c : Dev nD) (t : Fin cfg0.N) : FVec Ideal S1024x512 .f32 :=
  k0_pay2 (View.ld (iblk m c 0 t) (Rect.unit ![0, 0, 0] ![1, 1024, 1024] inb_S4x1024x1024_S1x1024x1024_0_0_0))
    (View.ld (iblk m c 1 t) (Rect.unit ![0, 0] ![1024, 512] inb_S4096x512_S1024x512_0_0))
    (View.ld (iblk m c 0 t) (Rect.unit ![1, 0, 0] ![1, 1024, 1024] inb_S4x1024x1024_S1x1024x1024_1_0_0))
    (View.ld (iblk m c 1 t) (Rect.unit ![1024, 0] ![1024, 512] inb_S4096x512_S1024x512_1024_0))
    (View.ld (iblk m c 0 t) (Rect.unit ![2, 0, 0] ![1, 1024, 1024] inb_S4x1024x1024_S1x1024x1024_2_0_0))
    (View.ld (iblk m c 1 t) (Rect.unit ![2048, 0] ![1024, 512] inb_S4096x512_S1024x512_2048_0))
    (View.ld (iblk m c 0 t) (Rect.unit ![3, 0, 0] ![1, 1024, 1024] inb_S4x1024x1024_S1x1024x1024_3_0_0))
    (View.ld (iblk m c 1 t) (Rect.unit ![3072, 0] ![1024, 512] inb_S4096x512_S1024x512_3072_0))

/-- It is the reference's product at the block's columns. -/
theorem tile_at (c : Dev nD) (t : Fin cfg0.N) (j : S1024x512.Idx) (i : S1024x8192.Idx) (h0 : (i 0).val = (j 0).val)
    (h1 : (i 1).val = 512 * t.val + (j 1).val) :
    tile m c t j = prod (m ((c : Thread nD τ).loc main_arg0)) (m ((c : Thread nD τ).loc main_arg1)) i := by
  pointwise [tile, k0_pay2, prod]
  refine Cert.GemmValue.sum4 _ _ _ _ _ (fun k => ?_) (fun k => ?_) (fun k => ?_) (fun k => ?_) <;>
    blk_point [iblk, V, idx t] <;> omega

/-! ## The product -/

/-- Every point leaves its block in the product's staging buffer. -/
theorem out_y (c : Dev nD) (t : Fin cfg0.N) : (outsAt0 m c t.val t.isLt).1 = tile m c t := by
  have hN : t.val < 16 := lt_of_lt_of_eq t.isLt (show cfg0.N = 16 from N_0)
  by_cases h0 : t.val % 16 = 0
  · rw [outsAt0_A m c t h0 (by omega) (by omega)]
    frame_out; rfl
  · by_cases h2 : t.val % 16 = 15
    · rw [outsAt0_C m c t h0 (by omega) h2]
      frame_out; rfl
    · rw [outsAt0_B m c t h0 (by omega) h2]
      frame_out; rfl

/-- The product's array after the run. -/
theorem final_y (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2, out_y]
  refine tile_at m c t y _ ?_ ?_ <;> simp [idx t, mul_comm]

/-! ## The largest magnitude -/

/-- A block's magnitudes are below a bound exactly when the product's are at the block's columns. -/
theorem tile_le (c : Dev nD) (t : Fin cfg0.N) (B : EReal) :
    (∀ j, FloatOps.absf (F := Ideal) (φ := .f32) (tile m c t j) ≤ B)
      ↔ ∀ i : S1024x8192.Idx, 512 * t.val ≤ (i 1).val → (i 1).val < 512 * (t.val + 1) →
        FloatOps.absf (F := Ideal) (φ := .f32) (prod (m ((c : Thread nD τ).loc main_arg0)) (m ((c : Thread nD τ).loc main_arg1)) i) ≤ B := by
  have hN : t.val < 16 := lt_of_lt_of_eq t.isLt (show cfg0.N = 16 from N_0)
  constructor
  · intro h i hi hi'
    rw [← tile_at m c t (ValueIdx.ix2 (i 0) ⟨(i 1).val - 512 * t.val, by omega⟩) i rfl (by simp; omega)]
    exact h _
  · intro h j
    have hj : (j 1).val < 512 := (j 1).isLt
    rw [tile_at m c t j (ValueIdx.ix2 (j 0) ⟨512 * t.val + (j 1).val, by omega⟩) rfl rfl]
    exact h _ (by simp) (by simp; omega)

/-- The larger of a block's maximum and the kept one is below a bound exactly when both are. -/
theorem pay1_le (a b B : EReal) : k0_pay1 (F := Ideal) a b ≤ B ↔ b ≤ B ∧ a ≤ B := max_le_iff

/-- Columns below one block's end are the columns before the block and the block's own. -/
theorem step (c : Dev nD) (t : Fin cfg0.N) (n : ℕ) (hn : t.val = n + 1) (B : EReal) (P : Prop)
    (h : P ↔ (∀ i : S1024x8192.Idx, (i 1).val < 512 * (n + 1) →
      FloatOps.absf (F := Ideal) (φ := .f32) (prod (m ((c : Thread nD τ).loc main_arg0)) (m ((c : Thread nD τ).loc main_arg1)) i) ≤ B)
      ∧ ∀ j, FloatOps.absf (F := Ideal) (φ := .f32) (tile m c t j) ≤ B) :
    P ↔ ∀ i : S1024x8192.Idx, (i 1).val < 512 * (n + 1 + 1) →
      FloatOps.absf (F := Ideal) (φ := .f32) (prod (m ((c : Thread nD τ).loc main_arg0)) (m ((c : Thread nD τ).loc main_arg1)) i) ≤ B := by
  rw [h, tile_le, hn]
  refine ⟨fun h i hi => ?_, fun h => ⟨fun i hi => h i (by omega), fun i _ hi => h i hi⟩⟩
  by_cases h' : (i 1).val < 512 * (n + 1)
  · exact h.1 i h'
  · exact h.2 i (by omega) hi

/-- The kept maximum after a point is below a bound exactly when the magnitudes of the columns seen so far are. -/
theorem scr_le (c : Dev nD) (B : EReal) : ∀ (n : ℕ) (hn : n < cfg0.N) (j : S1x1.Idx),
    (outsAt0 m c n hn).2.2 j ≤ B ↔ ∀ i : S1024x8192.Idx, (i 1).val < 512 * (n + 1) →
      FloatOps.absf (F := Ideal) (φ := .f32) (prod (m ((c : Thread nD τ).loc main_arg0)) (m ((c : Thread nD τ).loc main_arg1)) i) ≤ B := by
  intro n
  induction n with
  | zero =>
    intro hn j
    rw [outsAt0_A m c ⟨0, hn⟩ (by simp) (by simp) (by simp)]
    frame_out
    refine (pay3_le _ _ _ _ _ _ _ _ B).trans ((tile_le m c ⟨0, hn⟩ B).trans ?_)
    simp
  | succ n ih =>
    intro hn j
    have hN : n + 1 < 16 := lt_of_lt_of_eq hn (show cfg0.N = 16 from N_0)
    have ih := ih (Nat.lt_of_succ_lt hn)
    by_cases h2 : (n + 1) % 16 = 15
    · rw [outsAt0_C m c ⟨n + 1, hn⟩ (by simp; omega) (by simp) (by simpa using h2)]
      frame_out
      exact step m c ⟨n + 1, hn⟩ n rfl B _ ((pay1_le _ _ B).trans (and_congr (by
        rw [Idealize.ShloMosaic.read_unread_whole]; exact ih _) (pay3_le _ _ _ _ _ _ _ _ B)))
    · rw [outsAt0_B m c ⟨n + 1, hn⟩ (by simp; omega) (by simp) (by simpa using h2)]
      frame_out
      exact step m c ⟨n + 1, hn⟩ n rfl B _ ((pay1_le _ _ B).trans (and_congr (by
        rw [Idealize.ShloMosaic.read_unread_whole]; exact ih _) (pay3_le _ _ _ _ _ _ _ _ B)))

/-- At the last point the amax staging buffer gets the kept maximum. -/
theorem out_a (c : Dev nD) (t : Fin cfg0.N) (h : t.val % 16 = 15) : (outsAt0 m c t.val t.isLt).2.1 = (outsAt0 m c t.val t.isLt).2.2 := by
  have hN : t.val < 16 := lt_of_lt_of_eq t.isLt (show cfg0.N = 16 from N_0)
  rw [outsAt0_C m c t (by omega) (by omega) h]
  frame_out

/-- After the last point the kept maximum is the reference's. -/
theorem amax_eq (c : Dev nD) (j i : S1x1.Idx) : (outsAt0 m c t0_15.val t0_15.isLt).2.2 j
    = top (prod (m ((c : Thread nD τ).loc main_arg0)) (m ((c : Thread nD τ).loc main_arg1))) i := by
  refine eq_of_forall_ge_iff fun B : EReal => (scr_le m c B _ _ _).trans ((top_le _ _ B).trans ⟨fun h i _ => h i, fun h i => h i ?_⟩).symm
  have := (i 1).isLt
  exact this

/-- The maximum's array after the run. -/
theorem final_a (c : Dev nD) : (dats m 0 c).arrAt 3 (cfgs 0).N
    = top (prod (m ((c : Thread nD τ).loc main_arg0)) (m ((c : Thread nD τ).loc main_arg1))) := by
  refine (dats m 0 c).arrAt_eq_of_after_last 3 t0_15 (by decide +kernel) _ fun j => ?_
  rw [after0_3, out_a m c t0_15 (by decide +kernel)]
  exact amax_eq m c _ _

end Cert.GemmIdeal.RefValue

namespace Cert.Proof.GemmClaims

open Cert.GemmIdeal.RefValue in
/-- Kernel and reference compute the same product and the same largest magnitude. -/
theorem algebraic : Cert.algebraic_GemmIdeal_ReferenceGemmIdeal := by
  intro m g m' g' _ hagree
  refine ⟨fun c => prod (m ((c : Thread Cert.GemmIdeal.nD Cert.GemmIdeal.τ).loc Cert.GemmIdeal.main_arg0)) (m ((c : Thread Cert.GemmIdeal.nD Cert.GemmIdeal.τ).loc Cert.GemmIdeal.main_arg1)),
    fun c => top (prod (m ((c : Thread Cert.GemmIdeal.nD Cert.GemmIdeal.τ).loc Cert.GemmIdeal.main_arg0)) (m ((c : Thread Cert.GemmIdeal.nD Cert.GemmIdeal.τ).loc Cert.GemmIdeal.main_arg1))), ?_, ?_⟩
  · run_from Cert.GemmIdeal.Gen.run_main m g
    · exact final_y m c
    · exact final_a m c
  · refine θ_run_mono (Cert.ReferenceGemmIdeal.Value.run m' g') fun r hr c => ?_
    obtain ⟨h0, h1⟩ := hagree c
    obtain ⟨e0, e1, k0, k1⟩ := hr c
    rw [h0, h1] at e0 e1
    exact ⟨e0, e1, k0, k1⟩

end Cert.Proof.GemmClaims

end
-- ==== Proof.Quant.lean ====
/-
  The quantiser on one device's rows: eight column blocks against one whole-array computation.

  The kernel divides by `amax / 448`, rounds to e4m3 and multiplies back; the reference clips to ±448 before it
  rounds.  Over the extended reals the roundings are the identity, and under `|y| ≤ amax` the clip is one too, or
  the scale is zero or infinite and both sides agree for that reason.
-/
module

public import proofs.«01_k».proof.Defs
public import proofs.«01_k».proof.Proof.Gen.QuantIdeal.Value
public import proofs.«01_k».proof.Proof.Gen.ReferenceQuantIdeal.Value
public import proofs.«01_k».proof.Proof.Gen.Pre_within_amax
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QuantValue

/-! ## The arithmetic at one element -/

/-- The word of the largest e4m3 value is 448, -/
theorem word_448 : Ideal.ofBits .f32 0x43E00000#32 = ((448 : ℝ) : EReal) := by
  simp [Ideal.ofBits, Ideal.ieee, -EReal.coe_mul]; norm_num
/-- and the word of its negation −448. -/
theorem word_neg_448 : Ideal.ofBits .f32 0xC3E00000#32 = ((-448 : ℝ) : EReal) := by
  simp [Ideal.ofBits, Ideal.ieee, -EReal.coe_mul, -EReal.coe_neg]; norm_num

/-- Where `|y| ≤ a`, clipping `y / (a / 448)` to ±448 does not change what the multiplication by `a / 448` gives. -/
theorem clip_mul (y a : EReal) (h : max y (-y) ≤ a) :
    min ((448 : ℝ) : EReal) (max ((-448 : ℝ) : EReal) (Ideal.div y (Ideal.div a ((448 : ℝ) : EReal)))) * Ideal.div a ((448 : ℝ) : EReal)
      = Ideal.div y (Ideal.div a ((448 : ℝ) : EReal)) * Ideal.div a ((448 : ℝ) : EReal) := by
  have hy : y ≤ a := (le_max_left _ _).trans h
  have hy' : -y ≤ a := (le_max_right _ _).trans h
  rw [Ideal.div_coe (by norm_num : (448 : ℝ) ≠ 0)]
  induction a with
  | bot =>
    have e1 : y = ⊥ := le_bot_iff.mp hy
    rw [e1] at hy'; simp at hy'
  | top =>
    have e : (⊤ : EReal) * ((1 / 448 : ℝ) : EReal) = ⊤ := EReal.top_mul_coe_of_pos (by norm_num)
    rw [e]
    have e0 : Ideal.div y ⊤ = 0 := by unfold Ideal.div; rw [if_neg (by simp), EReal.inv_top, mul_zero]
    rw [e0, max_eq_right (by exact_mod_cast (by norm_num : (-448 : ℝ) ≤ 0)), min_eq_right (by exact_mod_cast (by norm_num : (0 : ℝ) ≤ 448))]
  | coe r =>
    rw [← EReal.coe_mul]
    induction y with
    | bot => simp at hy'
    | top => simp at hy
    | coe x =>
      have hx : x ≤ r := by exact_mod_cast hy
      have hx' : -x ≤ r := by exact_mod_cast hy'
      rcases eq_or_ne r 0 with rfl | hr
      · simp
      have hp : 0 < r := lt_of_le_of_ne (by linarith) hr.symm
      rw [Ideal.div_coe (by positivity), ← EReal.coe_mul]
      have hle : x * (1 / (r * (1 / 448))) ≤ 448 := by
        rw [mul_one_div, div_le_iff₀ (by positivity)]; linarith
      have hge : -448 ≤ x * (1 / (r * (1 / 448))) := by
        rw [mul_one_div, le_div_iff₀ (by positivity)]; linarith
      rw [max_eq_right (by exact_mod_cast hge), min_eq_right (by exact_mod_cast hle)]

end Cert.QuantValue

namespace Cert.QuantIdeal.RefValue

open Cert.QuantIdeal Cert.QuantIdeal.Gen

variable (m : (ℓ : Loc nD τ sig) → Buf (Elt Ideal) ℓ)

/-- The quantiser on the whole array, as the kernel computes it. -/
abbrev whole (y : FVec Ideal S1024x8192 .f32) (a : FVec Ideal S1x1 .f32) : FVec Ideal S1024x8192 .f32 :=
  fun i => Ideal.div (y i) (Ideal.div (a (ValueIdx.ix2 0 0)) (Ideal.ofBits .f32 0x43E00000#32))
    * Ideal.div (a (ValueIdx.ix2 0 0)) (Ideal.ofBits .f32 0x43E00000#32)

/-- The windows' index maps over the eight points. -/
theorem idx : ∀ t : Fin cfg0.N, win0_0.index t = ![0, t.val] ∧ win0_1.index t = ![0, 0] ∧ win0_2.index t = ![0, t.val] :=
  (by decide +kernel : ∀ t : Fin grid0.N, _)

/-- The result array after the run. -/
theorem final (c : Dev nD) : (dats m 0 c).arrAt 2 (cfgs 0).N
    = whole (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, whole]
  blk_point [iblk, V, idx t]

end Cert.QuantIdeal.RefValue

namespace Cert.QuantValue

/-- The precondition read at an element. -/
theorem within (y : FVec Ideal Cert.Pre_within_amax.S1024x8192 .f32) (a : FVec Ideal Cert.Pre_within_amax.S1x1 .f32)
    [Cert.Pre_within_amax.Facts] (h : Cert.Pre_within_amax.fn y a = fun _ => 1#1) (i : Cert.Pre_within_amax.S1024x8192.Idx) :
    max (y i) (-y i) ≤ a (ValueIdx.ix2 0 0) := by
  have e := congrFun h i
  revert e
  pointwise [Cert.Pre_within_amax.fn]
  intro e
  by_contra hn
  exact absurd (e.symm.trans (congrArg BitVec.ofBool (decide_eq_false hn))) (by decide)

end Cert.QuantValue

namespace Cert.Proof.QuantClaims

theorem algebraic : Cert.algebraic_QuantIdeal_ReferenceQuantIdeal_pre_within_amax := by
  pair_intro
  · run_from Cert.QuantIdeal.Gen.run_main m g
  · run_from Cert.ReferenceQuantIdeal.Value.run m' g'
    rw [Cert.QuantIdeal.RefValue.final m c]
    funext i
    pointwise [Cert.QuantIdeal.RefValue.whole, Cert.ReferenceQuantIdeal.Gen.k0_pay1]
    rw [Cert.QuantValue.word_448, Cert.QuantValue.word_neg_448]
    exact Cert.QuantValue.clip_mul _ _ (Cert.QuantValue.within _ _ (hpre c) i)

end Cert.Proof.QuantClaims

end
-- ==== Proof.lean ====
module

public import proofs.«01_k».proof.Defs
public import proofs.«01_k».proof.Proof.Gen.A2a
public import proofs.«01_k».proof.Proof.Gen.A2a.Skeleton
public import proofs.«01_k».proof.Proof.Gen.A2a.Launch
public import proofs.«01_k».proof.Proof.Gen.A2a.Points
public import proofs.«01_k».proof.Proof.Gen.A2aIdeal
public import proofs.«01_k».proof.Proof.Gen.A2aIdeal.Skeleton
public import proofs.«01_k».proof.Proof.Gen.A2aIdeal.Launch
public import proofs.«01_k».proof.Proof.Gen.A2aIdeal.Points
public import proofs.«01_k».proof.Proof.Gen.ReferenceA2aIdeal
public import proofs.«01_k».proof.Proof.Gen.ReferenceA2aIdeal.Run
public import proofs.«01_k».proof.Proof.Gen.On_own_slab
public import proofs.«01_k».proof.Proof.Gen.Gemm
public import proofs.«01_k».proof.Proof.Gen.Gemm.Skeleton
public import proofs.«01_k».proof.Proof.Gen.Gemm.Launch
public import proofs.«01_k».proof.Proof.Gen.Gemm.Points
public import proofs.«01_k».proof.Proof.Gen.Gemm.Frame
public import proofs.«01_k».proof.Proof.Gen.GemmIdeal
public import proofs.«01_k».proof.Proof.Gen.GemmIdeal.Skeleton
public import proofs.«01_k».proof.Proof.Gen.GemmIdeal.Launch
public import proofs.«01_k».proof.Proof.Gen.GemmIdeal.Points
public import proofs.«01_k».proof.Proof.Gen.GemmIdeal.Frame
public import proofs.«01_k».proof.Proof.Gen.ReferenceGemmIdeal
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.ReferenceQuantIdeal
public import proofs.«01_k».proof.Proof.Gen.ReferenceQuantIdeal.Skeleton
public import proofs.«01_k».proof.Proof.Gen.ReferenceQuantIdeal.Launch
public import proofs.«01_k».proof.Proof.Gen.ReferenceQuantIdeal.Points
public import proofs.«01_k».proof.Proof.Gen.ReferenceQuantIdeal.Frame
public import proofs.«01_k».proof.Proof.Gen.Pre_within_amax
public import proofs.«01_k».proof.Proof.Gen.GemmIdeal.Value
public import proofs.«01_k».proof.Proof.Gen.QuantIdeal.Value
public import proofs.«01_k».proof.Proof.Gen.ReferenceQuantIdeal.Value
public import proofs.«01_k».proof.Proof.Gen.ReferenceGemmIdeal.Run
public import proofs.«01_k».proof.Proof.A2a
public import proofs.«01_k».proof.Proof.Gemm
public import proofs.«01_k».proof.Proof.Quant
public import Idealize.ShloMosaic.Lib.Quiescent
public import Idealize.ShloMosaic.Adequacy
public import Idealize.ShloMosaic.Init

@[expose] public section

noncomputable section

namespace Cert.Proof

open Idealize.ShloMosaic Idealize.SL.Sem Cert.Gemm

/-- The product's reference ends, with its arguments kept; it has no semaphores. -/
theorem frame_referenceGemm : Cert.quiescent_ReferenceGemmIdeal := fun m ρ _ =>
  (θ_run Cert.ReferenceGemmIdeal.defs _ _).mono
    (fun r h => ⟨fun c => ⟨(h c).2.2.1, (h c).2.2.2⟩, sem_eq_zero_of_no_sems (by decide) r.2⟩)
    (Cert.ReferenceGemmIdeal.Value.run (F := Ideal) m ρ)

theorem claim : Cert.Claim := ⟨Cert.A2a.Gen.facts, Cert.A2aIdeal.Gen.facts, Cert.ReferenceA2aIdeal.Gen.facts, Cert.Gemm.Gen.facts, Cert.GemmIdeal.Gen.facts, Cert.ReferenceGemmIdeal.Gen.facts, Cert.Quant.Gen.facts, Cert.QuantIdeal.Gen.facts, Cert.ReferenceQuantIdeal.Gen.facts, Cert.Pre_within_amax.Gen.facts, Cert.On_own_slab.Gen.facts, by
  exact ⟨A2aClaims.frame, A2aClaims.frameIdeal, A2aClaims.frameReference,
    fun m ρ _ => Cert.Gemm.Gen.frame m ρ, fun m ρ _ => Cert.GemmIdeal.Gen.frame m ρ, frame_referenceGemm,
    fun m ρ _ => Cert.Quant.Gen.frame m ρ, fun m ρ _ => Cert.QuantIdeal.Gen.frame m ρ, fun m ρ _ => Cert.QuantIdeal.Gen.frame m ρ,
    fun m ρ _ => Cert.ReferenceQuantIdeal.Gen.frame m ρ, fun m ρ _ => Cert.ReferenceQuantIdeal.Gen.frame m ρ,
    trivial, A2aClaims.algebraic, trivial, GemmClaims.algebraic, trivial, QuantClaims.algebraic⟩⟩

end Cert.Proof

end
